-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.sign_bit.Statement Cert.KernelIdeal.S4096x64 .f32

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x4096 : Shape := ⟨3, ![4, 4096, 4096]⟩
abbrev S64x4096 : Shape := ⟨2, ![64, 4096]⟩
abbrev S16384x4096 : Shape := ⟨2, ![16384, 4096]⟩
abbrev S4096x64 : Shape := ⟨2, ![4096, 64]⟩
abbrev S16384x1 : Shape := ⟨2, ![16384, 1]⟩
abbrev S16384x64 : Shape := ⟨2, ![16384, 64]⟩
abbrev S4x512x4096 : Shape := ⟨3, ![4, 512, 4096]⟩
abbrev S4 : Shape := ⟨1, ![4]⟩
abbrev S2x512x1 : Shape := ⟨3, ![2, 512, 1]⟩
abbrev S2 : Shape := ⟨1, ![2]⟩
abbrev S2x512x64 : Shape := ⟨3, ![2, 512, 64]⟩
abbrev S1 : Shape := ⟨1, ![1]⟩
abbrev S_ : Shape := ⟨0, ![]⟩
abbrev S1x512x4096 : Shape := ⟨3, ![1, 512, 4096]⟩
abbrev S512x4096 : Shape := ⟨2, ![512, 4096]⟩
abbrev S512x64 : Shape := ⟨2, ![512, 64]⟩
abbrev S512 : Shape := ⟨1, ![512]⟩
abbrev S512x1 : Shape := ⟨2, ![512, 1]⟩
abbrev S1x512x1 : Shape := ⟨3, ![1, 512, 1]⟩
abbrev S1x512x64 : Shape := ⟨3, ![1, 512, 64]⟩
abbrev S4x4096 : Shape := ⟨2, ![4, 4096]⟩
abbrev S4x4096x64 : Shape := ⟨3, ![4, 4096, 64]⟩

abbrev nBuf : Space → Nat
  | .hbm => 8
  | .vmem => 5
  | .smem => 0
  | _ => 0

abbrev bufTy : (tb : Table) → Fin (tcTables nBuf tb) → BufTy
  | .hbm, ⟨0, _⟩ => ⟨S4x4096x4096, .f32⟩
  | .hbm, ⟨1, _⟩ => ⟨S64x4096, .f32⟩
  | .hbm, ⟨2, _⟩ => ⟨S16384x4096, .f32⟩
  | .hbm, ⟨3, _⟩ => ⟨S4096x64, .f32⟩
  | .hbm, ⟨4, _⟩ => ⟨S16384x1, .i32⟩
  | .hbm, ⟨5, _⟩ => ⟨S16384x64, .f32⟩
  | .hbm, ⟨6, _⟩ => ⟨S4x4096, .i32⟩
  | .hbm, ⟨7, _⟩ => ⟨S4x4096x64, .f32⟩
  | .local _ .vmem, ⟨0, _⟩ => ⟨S4096x64, .f32⟩
  | .local _ .vmem, ⟨1, _⟩ => ⟨S4096x64, .bf16⟩
  | .local _ .vmem, ⟨2, _⟩ => ⟨S4x512x4096, .f32⟩
  | .local _ .vmem, ⟨3, _⟩ => ⟨S2x512x1, .i32⟩
  | .local _ .vmem, ⟨4, _⟩ => ⟨S2x512x64, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_scratch0 : Ref sig .tc := ⟨.vmem, 1, rfl⟩
abbrev cc0_scoped0 : Ref sig .tc := ⟨.vmem, 2, rfl⟩
abbrev cc0_scoped2 : Ref sig .tc := ⟨.vmem, 3, rfl⟩
abbrev cc0_scoped4 : Ref sig .tc := ⟨.vmem, 4, rfl⟩
abbrev cc0_sem0_0 : DmaSem sig := 0

abbrev nD : Nat := 1
abbrev τ : Topo := Topo.v7x

variable {F : FTy → Type} [BitOps F]

abbrev grid0 : Pipeline.Grid := .none

def k0_off1 : Fin 1 → Nat :=
  let c0_i32_26_r0 : BitVec 32 := 0#32
  let c4_i32_r0 : BitVec 32 := 4#32
  let v42_r0 : BitVec 32 := Scalar.remui c0_i32_26_r0 c4_i32_r0
  ![v42_r0.toNat]
def k0_off2 : Fin 3 → Nat :=
  let c0_i32_26_r0 : BitVec 32 := 0#32
  let c4_i32_r0 : BitVec 32 := 4#32
  let v42_r0 : BitVec 32 := Scalar.remui c0_i32_26_r0 c4_i32_r0
  let c0_i32_27_r0 : BitVec 32 := 0#32
  let c0_i32_28_r0 : BitVec 32 := 0#32
  ![v42_r0.toNat, 0, 0]
def k0_cond1 : BitVec 1 :=
  let true_34_r0 : BitVec 1 := 1#1
  let true_7_r0 : BitVec 1 := 1#1
  let c1_i32_r0 : BitVec 32 := 1#32
  let c0_i32_8_r0 : BitVec 32 := 0#32
  let v23_r0 : BitVec 32 := Scalar.select true_7_r0 c1_i32_r0 c0_i32_8_r0
  let c32_i32_r0 : BitVec 32 := 32#32
  let v24_r0 : BitVec 1 := Scalar.cmpi .eq v23_r0 c32_i32_r0
  let c0_i32_9_r0 : BitVec 32 := 0#32
  let v25_r0 : BitVec 32 := Scalar.select v24_r0 c0_i32_9_r0 v23_r0
  let c0_i32_10_r0 : BitVec 32 := 0#32
  let v26_r0 : BitVec 32 := Scalar.addi v25_r0 c0_i32_10_r0
  let c0_i32_33_r0 : BitVec 32 := 0#32
  let v49_r0 : BitVec 1 := Scalar.cmpi .ne v26_r0 c0_i32_33_r0
  let v50_r0 : BitVec 1 := Scalar.andi true_34_r0 v49_r0
  let true_35_r0 : BitVec 1 := 1#1
  let v51_r0 : BitVec 1 := Scalar.andi v50_r0 true_35_r0
  let v52_r0 : BitVec 32 := Scalar.extui v51_r0
  let c0_i32_36_r0 : BitVec 32 := 0#32
  let v53_r0 : BitVec 1 := Scalar.cmpi .ne v52_r0 c0_i32_36_r0
  v53_r0

def k0_off3 : Fin 1 → Nat :=
  let c0_i32_31_r0 : BitVec 32 := 0#32
  let c1_i32_32_r0 : BitVec 32 := 1#32
  let v48_r0 : BitVec 32 := Scalar.addi c0_i32_31_r0 c1_i32_32_r0
  let c4_i32_90_r0 : BitVec 32 := 4#32
  let v109_r0 : BitVec 32 := Scalar.remui v48_r0 c4_i32_90_r0
  ![v109_r0.toNat]
def k0_off4 : Fin 3 → Nat :=
  let c0_i32_31_r0 : BitVec 32 := 0#32
  let c1_i32_32_r0 : BitVec 32 := 1#32
  let v48_r0 : BitVec 32 := Scalar.addi c0_i32_31_r0 c1_i32_32_r0
  let c4_i32_90_r0 : BitVec 32 := 4#32
  let v109_r0 : BitVec 32 := Scalar.remui v48_r0 c4_i32_90_r0
  let c0_i32_92_r0 : BitVec 32 := 0#32
  let c0_i32_93_r0 : BitVec 32 := 0#32
  ![v109_r0.toNat, 0, 0]
def k0_off5 : Fin 2 → Nat :=
  let c512_i32_91_r0 : BitVec 32 := 512#32
  let true_7_r0 : BitVec 1 := 1#1
  let c1_i32_r0 : BitVec 32 := 1#32
  let c0_i32_8_r0 : BitVec 32 := 0#32
  let v23_r0 : BitVec 32 := Scalar.select true_7_r0 c1_i32_r0 c0_i32_8_r0
  let c32_i32_r0 : BitVec 32 := 32#32
  let v24_r0 : BitVec 1 := Scalar.cmpi .eq v23_r0 c32_i32_r0
  let c0_i32_9_r0 : BitVec 32 := 0#32
  let v25_r0 : BitVec 32 := Scalar.select v24_r0 c0_i32_9_r0 v23_r0
  let c0_i32_10_r0 : BitVec 32 := 0#32
  let v26_r0 : BitVec 32 := Scalar.addi v25_r0 c0_i32_10_r0
  let v110_r0 : BitVec 32 := Scalar.muli c512_i32_91_r0 v26_r0
  let c0_i32_94_r0 : BitVec 32 := 0#32
  ![v110_r0.toNat, 0]
def k0_cond2 : BitVec 1 :=
  let true_38_r0 : BitVec 1 := 1#1
  let true_12_r0 : BitVec 1 := 1#1
  let true_7_r0 : BitVec 1 := 1#1
  let c1_i32_r0 : BitVec 32 := 1#32
  let c0_i32_8_r0 : BitVec 32 := 0#32
  let v23_r0 : BitVec 32 := Scalar.select true_7_r0 c1_i32_r0 c0_i32_8_r0
  let c32_i32_r0 : BitVec 32 := 32#32
  let v24_r0 : BitVec 1 := Scalar.cmpi .eq v23_r0 c32_i32_r0
  let c0_i32_9_r0 : BitVec 32 := 0#32
  let v25_r0 : BitVec 32 := Scalar.select v24_r0 c0_i32_9_r0 v23_r0
  let c1_i32_11_r0 : BitVec 32 := 1#32
  let v27_r0 : BitVec 32 := Scalar.addi v25_r0 c1_i32_11_r0
  let v28_r0 : BitVec 32 := Scalar.select true_12_r0 v27_r0 v25_r0
  let c32_i32_13_r0 : BitVec 32 := 32#32
  let v29_r0 : BitVec 1 := Scalar.cmpi .eq v28_r0 c32_i32_13_r0
  let c0_i32_14_r0 : BitVec 32 := 0#32
  let v30_r0 : BitVec 32 := Scalar.select v29_r0 c0_i32_14_r0 v28_r0
  let c0_i32_15_r0 : BitVec 32 := 0#32
  let v31_r0 : BitVec 32 := Scalar.addi v30_r0 c0_i32_15_r0
  let c0_i32_10_r0 : BitVec 32 := 0#32
  let v26_r0 : BitVec 32 := Scalar.addi v25_r0 c0_i32_10_r0
  let v56_r0 : BitVec 1 := Scalar.cmpi .ne v31_r0 v26_r0
  let v57_r0 : BitVec 1 := Scalar.andi true_38_r0 v56_r0
  let true_39_r0 : BitVec 1 := 1#1
  let v58_r0 : BitVec 1 := Scalar.andi v57_r0 true_39_r0
  let v59_r0 : BitVec 32 := Scalar.extui v58_r0
  let c0_i32_40_r0 : BitVec 32 := 0#32
  let v60_r0 : BitVec 1 := Scalar.cmpi .ne v59_r0 c0_i32_40_r0
  v60_r0

def k0_off6 : Fin 1 → Nat :=
  let true_34_r0 : BitVec 1 := 1#1
  let true_7_r0 : BitVec 1 := 1#1
  let c1_i32_r0 : BitVec 32 := 1#32
  let c0_i32_8_r0 : BitVec 32 := 0#32
  let v23_r0 : BitVec 32 := Scalar.select true_7_r0 c1_i32_r0 c0_i32_8_r0
  let c32_i32_r0 : BitVec 32 := 32#32
  let v24_r0 : BitVec 1 := Scalar.cmpi .eq v23_r0 c32_i32_r0
  let c0_i32_9_r0 : BitVec 32 := 0#32
  let v25_r0 : BitVec 32 := Scalar.select v24_r0 c0_i32_9_r0 v23_r0
  let c0_i32_10_r0 : BitVec 32 := 0#32
  let v26_r0 : BitVec 32 := Scalar.addi v25_r0 c0_i32_10_r0
  let c0_i32_33_r0 : BitVec 32 := 0#32
  let v49_r0 : BitVec 1 := Scalar.cmpi .ne v26_r0 c0_i32_33_r0
  let v50_r0 : BitVec 1 := Scalar.andi true_34_r0 v49_r0
  let c0_i32_31_r0 : BitVec 32 := 0#32
  let c1_i32_32_r0 : BitVec 32 := 1#32
  let v48_r0 : BitVec 32 := Scalar.addi c0_i32_31_r0 c1_i32_32_r0
  let c1_i32_37_r0 : BitVec 32 := 1#32
  let v54_r0 : BitVec 32 := Scalar.addi v48_r0 c1_i32_37_r0
  let v55_r0 : BitVec 32 := Scalar.select v50_r0 v54_r0 v48_r0
  let c4_i32_90_r0 : BitVec 32 := 4#32
  let v109_r0 : BitVec 32 := Scalar.remui v55_r0 c4_i32_90_r0
  ![v109_r0.toNat]
def k0_off7 : Fin 3 → Nat :=
  let true_34_r0 : BitVec 1 := 1#1
  let true_7_r0 : BitVec 1 := 1#1
  let c1_i32_r0 : BitVec 32 := 1#32
  let c0_i32_8_r0 : BitVec 32 := 0#32
  let v23_r0 : BitVec 32 := Scalar.select true_7_r0 c1_i32_r0 c0_i32_8_r0
  let c32_i32_r0 : BitVec 32 := 32#32
  let v24_r0 : BitVec 1 := Scalar.cmpi .eq v23_r0 c32_i32_r0
  let c0_i32_9_r0 : BitVec 32 := 0#32
  let v25_r0 : BitVec 32 := Scalar.select v24_r0 c0_i32_9_r0 v23_r0
  let c0_i32_10_r0 : BitVec 32 := 0#32
  let v26_r0 : BitVec 32 := Scalar.addi v25_r0 c0_i32_10_r0
  let c0_i32_33_r0 : BitVec 32 := 0#32
  let v49_r0 : BitVec 1 := Scalar.cmpi .ne v26_r0 c0_i32_33_r0
  let v50_r0 : BitVec 1 := Scalar.andi true_34_r0 v49_r0
  let c0_i32_31_r0 : BitVec 32 := 0#32
  let c1_i32_32_r0 : BitVec 32 := 1#32
  let v48_r0 : BitVec 32 := Scalar.addi c0_i32_31_r0 c1_i32_32_r0
  let c1_i32_37_r0 : BitVec 32 := 1#32
  let v54_r0 : BitVec 32 := Scalar.addi v48_r0 c1_i32_37_r0
  let v55_r0 : BitVec 32 := Scalar.select v50_r0 v54_r0 v48_r0
  let c4_i32_90_r0 : BitVec 32 := 4#32
  let v109_r0 : BitVec 32 := Scalar.remui v55_r0 c4_i32_90_r0
  let c0_i32_92_r0 : BitVec 32 := 0#32
  let c0_i32_93_r0 : BitVec 32 := 0#32
  ![v109_r0.toNat, 0, 0]
def k0_off8 : Fin 2 → Nat :=
  let c512_i32_91_r0 : BitVec 32 := 512#32
  let true_12_r0 : BitVec 1 := 1#1
  let true_7_r0 : BitVec 1 := 1#1
  let c1_i32_r0 : BitVec 32 := 1#32
  let c0_i32_8_r0 : BitVec 32 := 0#32
  let v23_r0 : BitVec 32 := Scalar.select true_7_r0 c1_i32_r0 c0_i32_8_r0
  let c32_i32_r0 : BitVec 32 := 32#32
  let v24_r0 : BitVec 1 := Scalar.cmpi .eq v23_r0 c32_i32_r0
  let c0_i32_9_r0 : BitVec 32 := 0#32
  let v25_r0 : BitVec 32 := Scalar.select v24_r0 c0_i32_9_r0 v23_r0
  let c1_i32_11_r0 : BitVec 32 := 1#32
  let v27_r0 : BitVec 32 := Scalar.addi v25_r0 c1_i32_11_r0
  let v28_r0 : BitVec 32 := Scalar.select true_12_r0 v27_r0 v25_r0
  let c32_i32_13_r0 : BitVec 32 := 32#32
  let v29_r0 : BitVec 1 := Scalar.cmpi .eq v28_r0 c32_i32_13_r0
  let c0_i32_14_r0 : BitVec 32 := 0#32
  let v30_r0 : BitVec 32 := Scalar.select v29_r0 c0_i32_14_r0 v28_r0
  let c0_i32_15_r0 : BitVec 32 := 0#32
  let v31_r0 : BitVec 32 := Scalar.addi v30_r0 c0_i32_15_r0
  let v110_r0 : BitVec 32 := Scalar.muli c512_i32_91_r0 v31_r0
  let c0_i32_94_r0 : BitVec 32 := 0#32
  ![v110_r0.toNat, 0]
@[reducible] def k0_t1_loop : Scf.Loop 32 :=
  let c0_i32_48_r0 : BitVec 32 := 0#32
  let c32_i32_49_r0 : BitVec 32 := 32#32
  let v63_r0 : BitVec 32 := Scalar.addi c0_i32_48_r0 c32_i32_49_r0
  let c1_i32_50_r0 : BitVec 32 := 1#32
  ⟨c0_i32_48_r0, v63_r0, c1_i32_50_r0⟩
def k0_off9 (arg6_r0 : BitVec 32) : Fin 1 → Nat :=
  let c4_i32_171_r0 : BitVec 32 := 4#32
  let v255_r0 : BitVec 32 := Scalar.remui arg6_r0 c4_i32_171_r0
  ![v255_r0.toNat]
def k0_cond3 (k0_t1 : Fin k0_t1_loop.trips) (arg12_r0 : BitVec 32) : BitVec 1 :=
  let true_104_r0 : BitVec 1 := 1#1
  let true_99_r0 : BitVec 1 := 1#1
  let c1_i32_98_r0 : BitVec 32 := 1#32
  let v117_r0 : BitVec 32 := Scalar.addi arg12_r0 c1_i32_98_r0
  let v118_r0 : BitVec 32 := Scalar.select true_99_r0 v117_r0 arg12_r0
  let c32_i32_100_r0 : BitVec 32 := 32#32
  let v119_r0 : BitVec 1 := Scalar.cmpi .eq v118_r0 c32_i32_100_r0
  let c0_i32_101_r0 : BitVec 32 := 0#32
  let v120_r0 : BitVec 32 := Scalar.select v119_r0 c0_i32_101_r0 v118_r0
  let c1_i32_103_r0 : BitVec 32 := 1#32
  let v122_r0 : BitVec 32 := Scalar.addi v120_r0 c1_i32_103_r0
  let v123_r0 : BitVec 32 := Scalar.select true_104_r0 v122_r0 v120_r0
  let c32_i32_105_r0 : BitVec 32 := 32#32
  let v124_r0 : BitVec 1 := Scalar.cmpi .eq v123_r0 c32_i32_105_r0
  let c0_i32_106_r0 : BitVec 32 := 0#32
  let v125_r0 : BitVec 32 := Scalar.select v124_r0 c0_i32_106_r0 v123_r0
  let c0_i32_107_r0 : BitVec 32 := 0#32
  let v126_r0 : BitVec 32 := Scalar.addi v125_r0 c0_i32_107_r0
  let true_109_r0 : BitVec 1 := 1#1
  let c1_i32_108_r0 : BitVec 32 := 1#32
  let v127_r0 : BitVec 32 := Scalar.addi v125_r0 c1_i32_108_r0
  let v128_r0 : BitVec 32 := Scalar.select true_109_r0 v127_r0 v125_r0
  let c32_i32_110_r0 : BitVec 32 := 32#32
  let v129_r0 : BitVec 1 := Scalar.cmpi .eq v128_r0 c32_i32_110_r0
  let c0_i32_111_r0 : BitVec 32 := 0#32
  let v130_r0 : BitVec 32 := Scalar.select v129_r0 c0_i32_111_r0 v128_r0
  let c0_i32_112_r0 : BitVec 32 := 0#32
  let v131_r0 : BitVec 32 := Scalar.addi v130_r0 c0_i32_112_r0
  let v137_r0 : BitVec 1 := Scalar.cmpi .ne v126_r0 v131_r0
  let c0_i32_48_r0 : BitVec 32 := 0#32
  let c1_i32_50_r0 : BitVec 32 := 1#32
  let arg5_r0 : BitVec 32 := Scf.iv c0_i32_48_r0 c1_i32_50_r0 k0_t1
  let c29_i32_r0 : BitVec 32 := 29#32
  let v138_r0 : BitVec 1 := Scalar.cmpi .sge arg5_r0 c29_i32_r0
  let true_118_r0 : BitVec 1 := 1#1
  let v139_r0 : BitVec 1 := Scalar.xori v138_r0 true_118_r0
  let v140_r0 : BitVec 1 := Scalar.andi v137_r0 v139_r0
  let true_119_r0 : BitVec 1 := 1#1
  let v141_r0 : BitVec 1 := Scalar.andi v140_r0 true_119_r0
  let v142_r0 : BitVec 32 := Scalar.extui v141_r0
  let c0_i32_120_r0 : BitVec 32 := 0#32
  let v143_r0 : BitVec 1 := Scalar.cmpi .ne v142_r0 c0_i32_120_r0
  v143_r0

def k0_off10 (arg6_r0 : BitVec 32) : Fin 3 → Nat :=
  let c4_i32_171_r0 : BitVec 32 := 4#32
  let v255_r0 : BitVec 32 := Scalar.remui arg6_r0 c4_i32_171_r0
  let c0_i32_173_r0 : BitVec 32 := 0#32
  let c0_i32_174_r0 : BitVec 32 := 0#32
  ![v255_r0.toNat, 0, 0]
def k0_off11 (arg12_r0 : BitVec 32) : Fin 2 → Nat :=
  let c512_i32_172_r0 : BitVec 32 := 512#32
  let true_109_r0 : BitVec 1 := 1#1
  let true_104_r0 : BitVec 1 := 1#1
  let true_99_r0 : BitVec 1 := 1#1
  let c1_i32_98_r0 : BitVec 32 := 1#32
  let v117_r0 : BitVec 32 := Scalar.addi arg12_r0 c1_i32_98_r0
  let v118_r0 : BitVec 32 := Scalar.select true_99_r0 v117_r0 arg12_r0
  let c32_i32_100_r0 : BitVec 32 := 32#32
  let v119_r0 : BitVec 1 := Scalar.cmpi .eq v118_r0 c32_i32_100_r0
  let c0_i32_101_r0 : BitVec 32 := 0#32
  let v120_r0 : BitVec 32 := Scalar.select v119_r0 c0_i32_101_r0 v118_r0
  let c1_i32_103_r0 : BitVec 32 := 1#32
  let v122_r0 : BitVec 32 := Scalar.addi v120_r0 c1_i32_103_r0
  let v123_r0 : BitVec 32 := Scalar.select true_104_r0 v122_r0 v120_r0
  let c32_i32_105_r0 : BitVec 32 := 32#32
  let v124_r0 : BitVec 1 := Scalar.cmpi .eq v123_r0 c32_i32_105_r0
  let c0_i32_106_r0 : BitVec 32 := 0#32
  let v125_r0 : BitVec 32 := Scalar.select v124_r0 c0_i32_106_r0 v123_r0
  let c1_i32_108_r0 : BitVec 32 := 1#32
  let v127_r0 : BitVec 32 := Scalar.addi v125_r0 c1_i32_108_r0
  let v128_r0 : BitVec 32 := Scalar.select true_109_r0 v127_r0 v125_r0
  let c32_i32_110_r0 : BitVec 32 := 32#32
  let v129_r0 : BitVec 1 := Scalar.cmpi .eq v128_r0 c32_i32_110_r0
  let c0_i32_111_r0 : BitVec 32 := 0#32
  let v130_r0 : BitVec 32 := Scalar.select v129_r0 c0_i32_111_r0 v128_r0
  let c0_i32_112_r0 : BitVec 32 := 0#32
  let v131_r0 : BitVec 32 := Scalar.addi v130_r0 c0_i32_112_r0
  let v256_r0 : BitVec 32 := Scalar.muli c512_i32_172_r0 v131_r0
  let c0_i32_175_r0 : BitVec 32 := 0#32
  ![v256_r0.toNat, 0]
def k0_off12 (arg7_r0 : BitVec 32) : Fin 1 → Nat :=
  let c4_i32_172_r0 : BitVec 32 := 4#32
  let v256_r0 : BitVec 32 := Scalar.remui arg7_r0 c4_i32_172_r0
  ![v256_r0.toNat]
def k0_cond4 (k0_t1 : Fin k0_t1_loop.trips) (arg12_r0 : BitVec 32) : BitVec 1 :=
  let c0_i32_92_r0 : BitVec 32 := 0#32
  let v111_r0 : BitVec 32 := Scalar.addi arg12_r0 c0_i32_92_r0
  let true_94_r0 : BitVec 1 := 1#1
  let c1_i32_93_r0 : BitVec 32 := 1#32
  let v112_r0 : BitVec 32 := Scalar.subi arg12_r0 c1_i32_93_r0
  let v113_r0 : BitVec 32 := Scalar.select true_94_r0 v112_r0 arg12_r0
  let c_m1_i32_95_r0 : BitVec 32 := 4294967295#32
  let v114_r0 : BitVec 1 := Scalar.cmpi .eq v113_r0 c_m1_i32_95_r0
  let c31_i32_96_r0 : BitVec 32 := 31#32
  let v115_r0 : BitVec 32 := Scalar.select v114_r0 c31_i32_96_r0 v113_r0
  let c0_i32_97_r0 : BitVec 32 := 0#32
  let v116_r0 : BitVec 32 := Scalar.addi v115_r0 c0_i32_97_r0
  let v155_r0 : BitVec 1 := Scalar.cmpi .ne v111_r0 v116_r0
  let c0_i32_48_r0 : BitVec 32 := 0#32
  let c1_i32_50_r0 : BitVec 32 := 1#32
  let arg5_r0 : BitVec 32 := Scf.iv c0_i32_48_r0 c1_i32_50_r0 k0_t1
  let c0_i32_90_r0 : BitVec 32 := 0#32
  let v109_r0 : BitVec 1 := Scalar.cmpi .eq arg5_r0 c0_i32_90_r0
  let v156_r0 : BitVec 1 := Scalar.ori v155_r0 v109_r0
  let c0_i32_127_r0 : BitVec 32 := 0#32
  let v157_r0 : BitVec 1 := Scalar.cmpi .sge arg5_r0 c0_i32_127_r0
  let v158_r0 : BitVec 1 := Scalar.andi v156_r0 v157_r0
  let v159_r0 : BitVec 32 := Scalar.extui v158_r0
  let c0_i32_128_r0 : BitVec 32 := 0#32
  let v160_r0 : BitVec 1 := Scalar.cmpi .ne v159_r0 c0_i32_128_r0
  v160_r0

def k0_off13 (arg7_r0 : BitVec 32) : Fin 3 → Nat :=
  let c4_i32_172_r0 : BitVec 32 := 4#32
  let v256_r0 : BitVec 32 := Scalar.remui arg7_r0 c4_i32_172_r0
  let c0_i32_173_r0 : BitVec 32 := 0#32
  let c0_i32_174_r0 : BitVec 32 := 0#32
  ![v256_r0.toNat, 0, 0]
def k0_off14 (arg12_r0 : BitVec 32) : Fin 2 → Nat :=
  let c512_i32_171_r0 : BitVec 32 := 512#32
  let c0_i32_92_r0 : BitVec 32 := 0#32
  let v111_r0 : BitVec 32 := Scalar.addi arg12_r0 c0_i32_92_r0
  let v255_r0 : BitVec 32 := Scalar.muli c512_i32_171_r0 v111_r0
  let c0_i32_175_r0 : BitVec 32 := 0#32
  ![v255_r0.toNat, 0]
def k0_off15 (arg7_r0 : BitVec 32) : Fin 3 → Nat :=
  let c4_i32_133_r0 : BitVec 32 := 4#32
  let v173_r0 : BitVec 32 := Scalar.remui arg7_r0 c4_i32_133_r0
  let v176_r0 : Index := Scalar.indexCast v173_r0
  let c0_136_r0 : Index := 0#32
  let c0_137_r0 : Index := 0#32
  ![v176_r0.toNat, 0, 0]

def k0_chk2 (arg7_r0 : BitVec 32) : Prop :=
  (∀ a, (k0_off15 arg7_r0) a + S1x512x4096.size a ≤ S4x512x4096.size a)
theorem k0_off15_inb : ∀ (arg7_r0 : BitVec 32) (k0_hw2 : k0_chk2 arg7_r0), ∀ a, (k0_off15 arg7_r0) a + S1x512x4096.size a ≤ S4x512x4096.size a := fun arg7_r0 k0_hw2 => k0_hw2

def k0_off16 (arg8_r0 : BitVec 32) : Fin 3 → Nat :=
  let c2_i32_134_r0 : BitVec 32 := 2#32
  let v174_r0 : BitVec 32 := Scalar.remui arg8_r0 c2_i32_134_r0
  let v191_r0 : Index := Scalar.indexCast v174_r0
  let c0_143_r0 : Index := 0#32
  let c0_144_r0 : Index := 0#32
  ![v191_r0.toNat, 0, 0]

def k0_chk3 (arg8_r0 : BitVec 32) : Prop :=
  (∀ a, (k0_off16 arg8_r0) a + S1x512x1.size a ≤ S2x512x1.size a)
theorem k0_off16_inb : ∀ (arg8_r0 : BitVec 32) (k0_hw3 : k0_chk3 arg8_r0), ∀ a, (k0_off16 arg8_r0) a + S1x512x1.size a ≤ S2x512x1.size a := fun arg8_r0 k0_hw3 => k0_hw3

def k0_off17 (arg10_r0 : BitVec 32) : Fin 3 → Nat :=
  let c2_i32_135_r0 : BitVec 32 := 2#32
  let v175_r0 : BitVec 32 := Scalar.remui arg10_r0 c2_i32_135_r0
  let v202_r0 : Index := Scalar.indexCast v175_r0
  let c0_146_r0 : Index := 0#32
  let c0_147_r0 : Index := 0#32
  ![v202_r0.toNat, 0, 0]

def k0_chk4 (arg10_r0 : BitVec 32) : Prop :=
  (∀ a, (k0_off17 arg10_r0) a + S1x512x64.size a ≤ S2x512x64.size a)
theorem k0_off17_inb : ∀ (arg10_r0 : BitVec 32) (k0_hw4 : k0_chk4 arg10_r0), ∀ a, (k0_off17 arg10_r0) a + S1x512x64.size a ≤ S2x512x64.size a := fun arg10_r0 k0_hw4 => k0_hw4

def k0_off18 (arg8_r0 : BitVec 32) : Fin 1 → Nat :=
  let c2_i32_171_r0 : BitVec 32 := 2#32
  let v255_r0 : BitVec 32 := Scalar.remui arg8_r0 c2_i32_171_r0
  ![v255_r0.toNat]
def k0_cond8 (k0_t1 : Fin k0_t1_loop.trips) (arg12_r0 : BitVec 32) : BitVec 1 :=
  let c0_i32_92_r0 : BitVec 32 := 0#32
  let v111_r0 : BitVec 32 := Scalar.addi arg12_r0 c0_i32_92_r0
  let true_99_r0 : BitVec 1 := 1#1
  let c1_i32_98_r0 : BitVec 32 := 1#32
  let v117_r0 : BitVec 32 := Scalar.addi arg12_r0 c1_i32_98_r0
  let v118_r0 : BitVec 32 := Scalar.select true_99_r0 v117_r0 arg12_r0
  let c32_i32_100_r0 : BitVec 32 := 32#32
  let v119_r0 : BitVec 1 := Scalar.cmpi .eq v118_r0 c32_i32_100_r0
  let c0_i32_101_r0 : BitVec 32 := 0#32
  let v120_r0 : BitVec 32 := Scalar.select v119_r0 c0_i32_101_r0 v118_r0
  let c0_i32_102_r0 : BitVec 32 := 0#32
  let v121_r0 : BitVec 32 := Scalar.addi v120_r0 c0_i32_102_r0
  let v211_r0 : BitVec 1 := Scalar.cmpi .ne v111_r0 v121_r0
  let c0_i32_48_r0 : BitVec 32 := 0#32
  let c1_i32_50_r0 : BitVec 32 := 1#32
  let arg5_r0 : BitVec 32 := Scf.iv c0_i32_48_r0 c1_i32_50_r0 k0_t1
  let c31_i32_91_r0 : BitVec 32 := 31#32
  let v110_r0 : BitVec 1 := Scalar.cmpi .eq arg5_r0 c31_i32_91_r0
  let v212_r0 : BitVec 1 := Scalar.ori v211_r0 v110_r0
  let v213_r0 : BitVec 32 := Scalar.extui v212_r0
  let c0_i32_149_r0 : BitVec 32 := 0#32
  let v214_r0 : BitVec 1 := Scalar.cmpi .ne v213_r0 c0_i32_149_r0
  v214_r0

def k0_off19 (arg12_r0 : BitVec 32) : Fin 2 → Nat :=
  let c512_i32_172_r0 : BitVec 32 := 512#32
  let c0_i32_92_r0 : BitVec 32 := 0#32
  let v111_r0 : BitVec 32 := Scalar.addi arg12_r0 c0_i32_92_r0
  let v256_r0 : BitVec 32 := Scalar.muli c512_i32_172_r0 v111_r0
  let c0_i32_173_r0 : BitVec 32 := 0#32
  ![v256_r0.toNat, 0]
def k0_off20 (arg8_r0 : BitVec 32) : Fin 3 → Nat :=
  let c2_i32_171_r0 : BitVec 32 := 2#32
  let v255_r0 : BitVec 32 := Scalar.remui arg8_r0 c2_i32_171_r0
  let c0_i32_174_r0 : BitVec 32 := 0#32
  let c0_i32_175_r0 : BitVec 32 := 0#32
  ![v255_r0.toNat, 0, 0]
def k0_off21 (arg10_r0 : BitVec 32) : Fin 1 → Nat :=
  let c2_i32_171_r0 : BitVec 32 := 2#32
  let v255_r0 : BitVec 32 := Scalar.remui arg10_r0 c2_i32_171_r0
  ![v255_r0.toNat]
def k0_cond9 (k0_t1 : Fin k0_t1_loop.trips) (arg12_r0 : BitVec 32) : BitVec 1 :=
  let c0_i32_92_r0 : BitVec 32 := 0#32
  let v111_r0 : BitVec 32 := Scalar.addi arg12_r0 c0_i32_92_r0
  let true_99_r0 : BitVec 1 := 1#1
  let c1_i32_98_r0 : BitVec 32 := 1#32
  let v117_r0 : BitVec 32 := Scalar.addi arg12_r0 c1_i32_98_r0
  let v118_r0 : BitVec 32 := Scalar.select true_99_r0 v117_r0 arg12_r0
  let c32_i32_100_r0 : BitVec 32 := 32#32
  let v119_r0 : BitVec 1 := Scalar.cmpi .eq v118_r0 c32_i32_100_r0
  let c0_i32_101_r0 : BitVec 32 := 0#32
  let v120_r0 : BitVec 32 := Scalar.select v119_r0 c0_i32_101_r0 v118_r0
  let c0_i32_102_r0 : BitVec 32 := 0#32
  let v121_r0 : BitVec 32 := Scalar.addi v120_r0 c0_i32_102_r0
  let v218_r0 : BitVec 1 := Scalar.cmpi .ne v111_r0 v121_r0
  let c0_i32_48_r0 : BitVec 32 := 0#32
  let c1_i32_50_r0 : BitVec 32 := 1#32
  let arg5_r0 : BitVec 32 := Scf.iv c0_i32_48_r0 c1_i32_50_r0 k0_t1
  let c31_i32_91_r0 : BitVec 32 := 31#32
  let v110_r0 : BitVec 1 := Scalar.cmpi .eq arg5_r0 c31_i32_91_r0
  let v219_r0 : BitVec 1 := Scalar.ori v218_r0 v110_r0
  let v220_r0 : BitVec 32 := Scalar.extui v219_r0
  let c0_i32_152_r0 : BitVec 32 := 0#32
  let v221_r0 : BitVec 1 := Scalar.cmpi .ne v220_r0 c0_i32_152_r0
  v221_r0

def k0_off22 (arg12_r0 : BitVec 32) : Fin 2 → Nat :=
  let c512_i32_172_r0 : BitVec 32 := 512#32
  let c0_i32_92_r0 : BitVec 32 := 0#32
  let v111_r0 : BitVec 32 := Scalar.addi arg12_r0 c0_i32_92_r0
  let v256_r0 : BitVec 32 := Scalar.muli c512_i32_172_r0 v111_r0
  let c0_i32_173_r0 : BitVec 32 := 0#32
  ![v256_r0.toNat, 0]
def k0_off23 (arg10_r0 : BitVec 32) : Fin 3 → Nat :=
  let c2_i32_171_r0 : BitVec 32 := 2#32
  let v255_r0 : BitVec 32 := Scalar.remui arg10_r0 c2_i32_171_r0
  let c0_i32_174_r0 : BitVec 32 := 0#32
  let c0_i32_175_r0 : BitVec 32 := 0#32
  ![v255_r0.toNat, 0, 0]
def k0_off24 (arg9_r0 : BitVec 32) : Fin 1 → Nat :=
  let c2_i32_171_r0 : BitVec 32 := 2#32
  let v255_r0 : BitVec 32 := Scalar.remui arg9_r0 c2_i32_171_r0
  ![v255_r0.toNat]
def k0_cond11 (k0_t1 : Fin k0_t1_loop.trips) (arg12_r0 : BitVec 32) : BitVec 1 :=
  let c0_i32_92_r0 : BitVec 32 := 0#32
  let v111_r0 : BitVec 32 := Scalar.addi arg12_r0 c0_i32_92_r0
  let true_94_r0 : BitVec 1 := 1#1
  let c1_i32_93_r0 : BitVec 32 := 1#32
  let v112_r0 : BitVec 32 := Scalar.subi arg12_r0 c1_i32_93_r0
  let v113_r0 : BitVec 32 := Scalar.select true_94_r0 v112_r0 arg12_r0
  let c_m1_i32_95_r0 : BitVec 32 := 4294967295#32
  let v114_r0 : BitVec 1 := Scalar.cmpi .eq v113_r0 c_m1_i32_95_r0
  let c31_i32_96_r0 : BitVec 32 := 31#32
  let v115_r0 : BitVec 32 := Scalar.select v114_r0 c31_i32_96_r0 v113_r0
  let c0_i32_97_r0 : BitVec 32 := 0#32
  let v116_r0 : BitVec 32 := Scalar.addi v115_r0 c0_i32_97_r0
  let v231_r0 : BitVec 1 := Scalar.cmpi .ne v111_r0 v116_r0
  let c0_i32_48_r0 : BitVec 32 := 0#32
  let c1_i32_50_r0 : BitVec 32 := 1#32
  let arg5_r0 : BitVec 32 := Scf.iv c0_i32_48_r0 c1_i32_50_r0 k0_t1
  let c0_i32_90_r0 : BitVec 32 := 0#32
  let v109_r0 : BitVec 1 := Scalar.cmpi .eq arg5_r0 c0_i32_90_r0
  let true_158_r0 : BitVec 1 := 1#1
  let v232_r0 : BitVec 1 := Scalar.xori v109_r0 true_158_r0
  let v233_r0 : BitVec 1 := Scalar.andi v231_r0 v232_r0
  let v234_r0 : BitVec 32 := Scalar.extui v233_r0
  let c0_i32_159_r0 : BitVec 32 := 0#32
  let v235_r0 : BitVec 1 := Scalar.cmpi .ne v234_r0 c0_i32_159_r0
  v235_r0

def k0_off25 (arg12_r0 : BitVec 32) : Fin 2 → Nat :=
  let c512_i32_172_r0 : BitVec 32 := 512#32
  let true_94_r0 : BitVec 1 := 1#1
  let c1_i32_93_r0 : BitVec 32 := 1#32
  let v112_r0 : BitVec 32 := Scalar.subi arg12_r0 c1_i32_93_r0
  let v113_r0 : BitVec 32 := Scalar.select true_94_r0 v112_r0 arg12_r0
  let c_m1_i32_95_r0 : BitVec 32 := 4294967295#32
  let v114_r0 : BitVec 1 := Scalar.cmpi .eq v113_r0 c_m1_i32_95_r0
  let c31_i32_96_r0 : BitVec 32 := 31#32
  let v115_r0 : BitVec 32 := Scalar.select v114_r0 c31_i32_96_r0 v113_r0
  let c0_i32_97_r0 : BitVec 32 := 0#32
  let v116_r0 : BitVec 32 := Scalar.addi v115_r0 c0_i32_97_r0
  let v256_r0 : BitVec 32 := Scalar.muli c512_i32_172_r0 v116_r0
  let c0_i32_173_r0 : BitVec 32 := 0#32
  ![v256_r0.toNat, 0]
def k0_off26 (arg9_r0 : BitVec 32) : Fin 3 → Nat :=
  let c2_i32_171_r0 : BitVec 32 := 2#32
  let v255_r0 : BitVec 32 := Scalar.remui arg9_r0 c2_i32_171_r0
  let c0_i32_174_r0 : BitVec 32 := 0#32
  let c0_i32_175_r0 : BitVec 32 := 0#32
  ![v255_r0.toNat, 0, 0]
def k0_off27 (arg11_r0 : BitVec 32) : Fin 1 → Nat :=
  let c2_i32_171_r0 : BitVec 32 := 2#32
  let v255_r0 : BitVec 32 := Scalar.remui arg11_r0 c2_i32_171_r0
  ![v255_r0.toNat]
def k0_cond12 (k0_t1 : Fin k0_t1_loop.trips) (arg12_r0 : BitVec 32) : BitVec 1 :=
  let c0_i32_92_r0 : BitVec 32 := 0#32
  let v111_r0 : BitVec 32 := Scalar.addi arg12_r0 c0_i32_92_r0
  let true_94_r0 : BitVec 1 := 1#1
  let c1_i32_93_r0 : BitVec 32 := 1#32
  let v112_r0 : BitVec 32 := Scalar.subi arg12_r0 c1_i32_93_r0
  let v113_r0 : BitVec 32 := Scalar.select true_94_r0 v112_r0 arg12_r0
  let c_m1_i32_95_r0 : BitVec 32 := 4294967295#32
  let v114_r0 : BitVec 1 := Scalar.cmpi .eq v113_r0 c_m1_i32_95_r0
  let c31_i32_96_r0 : BitVec 32 := 31#32
  let v115_r0 : BitVec 32 := Scalar.select v114_r0 c31_i32_96_r0 v113_r0
  let c0_i32_97_r0 : BitVec 32 := 0#32
  let v116_r0 : BitVec 32 := Scalar.addi v115_r0 c0_i32_97_r0
  let v239_r0 : BitVec 1 := Scalar.cmpi .ne v111_r0 v116_r0
  let c0_i32_48_r0 : BitVec 32 := 0#32
  let c1_i32_50_r0 : BitVec 32 := 1#32
  let arg5_r0 : BitVec 32 := Scf.iv c0_i32_48_r0 c1_i32_50_r0 k0_t1
  let c0_i32_90_r0 : BitVec 32 := 0#32
  let v109_r0 : BitVec 1 := Scalar.cmpi .eq arg5_r0 c0_i32_90_r0
  let true_162_r0 : BitVec 1 := 1#1
  let v240_r0 : BitVec 1 := Scalar.xori v109_r0 true_162_r0
  let v241_r0 : BitVec 1 := Scalar.andi v239_r0 v240_r0
  let v242_r0 : BitVec 32 := Scalar.extui v241_r0
  let c0_i32_163_r0 : BitVec 32 := 0#32
  let v243_r0 : BitVec 1 := Scalar.cmpi .ne v242_r0 c0_i32_163_r0
  v243_r0

def k0_off28 (arg12_r0 : BitVec 32) : Fin 2 → Nat :=
  let c512_i32_172_r0 : BitVec 32 := 512#32
  let true_94_r0 : BitVec 1 := 1#1
  let c1_i32_93_r0 : BitVec 32 := 1#32
  let v112_r0 : BitVec 32 := Scalar.subi arg12_r0 c1_i32_93_r0
  let v113_r0 : BitVec 32 := Scalar.select true_94_r0 v112_r0 arg12_r0
  let c_m1_i32_95_r0 : BitVec 32 := 4294967295#32
  let v114_r0 : BitVec 1 := Scalar.cmpi .eq v113_r0 c_m1_i32_95_r0
  let c31_i32_96_r0 : BitVec 32 := 31#32
  let v115_r0 : BitVec 32 := Scalar.select v114_r0 c31_i32_96_r0 v113_r0
  let c0_i32_97_r0 : BitVec 32 := 0#32
  let v116_r0 : BitVec 32 := Scalar.addi v115_r0 c0_i32_97_r0
  let v256_r0 : BitVec 32 := Scalar.muli c512_i32_172_r0 v116_r0
  let c0_i32_173_r0 : BitVec 32 := 0#32
  ![v256_r0.toNat, 0]
def k0_off29 (arg11_r0 : BitVec 32) : Fin 3 → Nat :=
  let c2_i32_171_r0 : BitVec 32 := 2#32
  let v255_r0 : BitVec 32 := Scalar.remui arg11_r0 c2_i32_171_r0
  let c0_i32_174_r0 : BitVec 32 := 0#32
  let c0_i32_175_r0 : BitVec 32 := 0#32
  ![v255_r0.toNat, 0, 0]

def k0_chk1 (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) : Prop :=
  (∀ (k0_h3 : k0_cond3 k0_t1 arg12_r0 = 1#1), ∀ a, (k0_off9 arg6_r0) a + S1.size a ≤ S4.size a) ∧
  (∀ (k0_h3 : k0_cond3 k0_t1 arg12_r0 = 1#1), ∀ a, (k0_off10 arg6_r0) a + S1x512x4096.size a ≤ S4x512x4096.size a) ∧
  (∀ (k0_h3 : k0_cond3 k0_t1 arg12_r0 = 1#1), ∀ a, (k0_off11 arg12_r0) a + S512x4096.size a ≤ S16384x4096.size a) ∧
  (∀ (k0_h4 : k0_cond4 k0_t1 arg12_r0 = 1#1), ∀ a, (k0_off12 arg7_r0) a + S1.size a ≤ S4.size a) ∧
  (∀ (k0_h4 : k0_cond4 k0_t1 arg12_r0 = 1#1), ∀ a, (k0_off13 arg7_r0) a + S1x512x4096.size a ≤ S4x512x4096.size a) ∧
  (∀ (k0_h4 : k0_cond4 k0_t1 arg12_r0 = 1#1), ∀ a, (k0_off14 arg12_r0) a + S512x4096.size a ≤ S16384x4096.size a) ∧
  (∀ (k0_h8 : k0_cond8 k0_t1 arg12_r0 = 1#1), ∀ a, (k0_off18 arg8_r0) a + S1.size a ≤ S2.size a) ∧
  (∀ (k0_h8 : k0_cond8 k0_t1 arg12_r0 = 1#1), ∀ a, (k0_off19 arg12_r0) a + S512x1.size a ≤ S16384x1.size a) ∧
  (∀ (k0_h8 : k0_cond8 k0_t1 arg12_r0 = 1#1), ∀ a, (k0_off20 arg8_r0) a + S1x512x1.size a ≤ S2x512x1.size a) ∧
  (∀ (k0_h9 : k0_cond9 k0_t1 arg12_r0 = 1#1), ∀ a, (k0_off21 arg10_r0) a + S1.size a ≤ S2.size a) ∧
  (∀ (k0_h9 : k0_cond9 k0_t1 arg12_r0 = 1#1), ∀ a, (k0_off22 arg12_r0) a + S512x64.size a ≤ S16384x64.size a) ∧
  (∀ (k0_h9 : k0_cond9 k0_t1 arg12_r0 = 1#1), ∀ a, (k0_off23 arg10_r0) a + S1x512x64.size a ≤ S2x512x64.size a) ∧
  (∀ (k0_h11 : k0_cond11 k0_t1 arg12_r0 = 1#1), ∀ a, (k0_off24 arg9_r0) a + S1.size a ≤ S2.size a) ∧
  (∀ (k0_h11 : k0_cond11 k0_t1 arg12_r0 = 1#1), ∀ a, (k0_off25 arg12_r0) a + S512x1.size a ≤ S16384x1.size a) ∧
  (∀ (k0_h11 : k0_cond11 k0_t1 arg12_r0 = 1#1), ∀ a, (k0_off26 arg9_r0) a + S1x512x1.size a ≤ S2x512x1.size a) ∧
  (∀ (k0_h12 : k0_cond12 k0_t1 arg12_r0 = 1#1), ∀ a, (k0_off27 arg11_r0) a + S1.size a ≤ S2.size a) ∧
  (∀ (k0_h12 : k0_cond12 k0_t1 arg12_r0 = 1#1), ∀ a, (k0_off28 arg12_r0) a + S512x64.size a ≤ S16384x64.size a) ∧
  (∀ (k0_h12 : k0_cond12 k0_t1 arg12_r0 = 1#1), ∀ a, (k0_off29 arg11_r0) a + S1x512x64.size a ≤ S2x512x64.size a)
theorem k0_off9_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h3 : k0_cond3 k0_t1 arg12_r0 = 1#1), ∀ a, (k0_off9 arg6_r0) a + S1.size a ≤ S4.size a := fun k0_t1 arg6_r0 arg7_r0 arg8_r0 arg9_r0 arg10_r0 arg11_r0 arg12_r0 k0_hw1 k0_h3 => k0_hw1.1 k0_h3
theorem k0_off10_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h3 : k0_cond3 k0_t1 arg12_r0 = 1#1), ∀ a, (k0_off10 arg6_r0) a + S1x512x4096.size a ≤ S4x512x4096.size a := fun k0_t1 arg6_r0 arg7_r0 arg8_r0 arg9_r0 arg10_r0 arg11_r0 arg12_r0 k0_hw1 k0_h3 => k0_hw1.2.1 k0_h3
theorem k0_off11_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h3 : k0_cond3 k0_t1 arg12_r0 = 1#1), ∀ a, (k0_off11 arg12_r0) a + S512x4096.size a ≤ S16384x4096.size a := fun k0_t1 arg6_r0 arg7_r0 arg8_r0 arg9_r0 arg10_r0 arg11_r0 arg12_r0 k0_hw1 k0_h3 => k0_hw1.2.2.1 k0_h3
theorem k0_off12_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h4 : k0_cond4 k0_t1 arg12_r0 = 1#1), ∀ a, (k0_off12 arg7_r0) a + S1.size a ≤ S4.size a := fun k0_t1 arg6_r0 arg7_r0 arg8_r0 arg9_r0 arg10_r0 arg11_r0 arg12_r0 k0_hw1 k0_h4 => k0_hw1.2.2.2.1 k0_h4
theorem k0_off13_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h4 : k0_cond4 k0_t1 arg12_r0 = 1#1), ∀ a, (k0_off13 arg7_r0) a + S1x512x4096.size a ≤ S4x512x4096.size a := fun k0_t1 arg6_r0 arg7_r0 arg8_r0 arg9_r0 arg10_r0 arg11_r0 arg12_r0 k0_hw1 k0_h4 => k0_hw1.2.2.2.2.1 k0_h4
theorem k0_off14_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h4 : k0_cond4 k0_t1 arg12_r0 = 1#1), ∀ a, (k0_off14 arg12_r0) a + S512x4096.size a ≤ S16384x4096.size a := fun k0_t1 arg6_r0 arg7_r0 arg8_r0 arg9_r0 arg10_r0 arg11_r0 arg12_r0 k0_hw1 k0_h4 => k0_hw1.2.2.2.2.2.1 k0_h4
theorem k0_off18_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h8 : k0_cond8 k0_t1 arg12_r0 = 1#1), ∀ a, (k0_off18 arg8_r0) a + S1.size a ≤ S2.size a := fun k0_t1 arg6_r0 arg7_r0 arg8_r0 arg9_r0 arg10_r0 arg11_r0 arg12_r0 k0_hw1 k0_h8 => k0_hw1.2.2.2.2.2.2.1 k0_h8
theorem k0_off19_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h8 : k0_cond8 k0_t1 arg12_r0 = 1#1), ∀ a, (k0_off19 arg12_r0) a + S512x1.size a ≤ S16384x1.size a := fun k0_t1 arg6_r0 arg7_r0 arg8_r0 arg9_r0 arg10_r0 arg11_r0 arg12_r0 k0_hw1 k0_h8 => k0_hw1.2.2.2.2.2.2.2.1 k0_h8
theorem k0_off20_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h8 : k0_cond8 k0_t1 arg12_r0 = 1#1), ∀ a, (k0_off20 arg8_r0) a + S1x512x1.size a ≤ S2x512x1.size a := fun k0_t1 arg6_r0 arg7_r0 arg8_r0 arg9_r0 arg10_r0 arg11_r0 arg12_r0 k0_hw1 k0_h8 => k0_hw1.2.2.2.2.2.2.2.2.1 k0_h8
theorem k0_off21_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h9 : k0_cond9 k0_t1 arg12_r0 = 1#1), ∀ a, (k0_off21 arg10_r0) a + S1.size a ≤ S2.size a := fun k0_t1 arg6_r0 arg7_r0 arg8_r0 arg9_r0 arg10_r0 arg11_r0 arg12_r0 k0_hw1 k0_h9 => k0_hw1.2.2.2.2.2.2.2.2.2.1 k0_h9
theorem k0_off22_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h9 : k0_cond9 k0_t1 arg12_r0 = 1#1), ∀ a, (k0_off22 arg12_r0) a + S512x64.size a ≤ S16384x64.size a := fun k0_t1 arg6_r0 arg7_r0 arg8_r0 arg9_r0 arg10_r0 arg11_r0 arg12_r0 k0_hw1 k0_h9 => k0_hw1.2.2.2.2.2.2.2.2.2.2.1 k0_h9
theorem k0_off23_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h9 : k0_cond9 k0_t1 arg12_r0 = 1#1), ∀ a, (k0_off23 arg10_r0) a + S1x512x64.size a ≤ S2x512x64.size a := fun k0_t1 arg6_r0 arg7_r0 arg8_r0 arg9_r0 arg10_r0 arg11_r0 arg12_r0 k0_hw1 k0_h9 => k0_hw1.2.2.2.2.2.2.2.2.2.2.2.1 k0_h9
theorem k0_off24_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h11 : k0_cond11 k0_t1 arg12_r0 = 1#1), ∀ a, (k0_off24 arg9_r0) a + S1.size a ≤ S2.size a := fun k0_t1 arg6_r0 arg7_r0 arg8_r0 arg9_r0 arg10_r0 arg11_r0 arg12_r0 k0_hw1 k0_h11 => k0_hw1.2.2.2.2.2.2.2.2.2.2.2.2.1 k0_h11
theorem k0_off25_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h11 : k0_cond11 k0_t1 arg12_r0 = 1#1), ∀ a, (k0_off25 arg12_r0) a + S512x1.size a ≤ S16384x1.size a := fun k0_t1 arg6_r0 arg7_r0 arg8_r0 arg9_r0 arg10_r0 arg11_r0 arg12_r0 k0_hw1 k0_h11 => k0_hw1.2.2.2.2.2.2.2.2.2.2.2.2.2.1 k0_h11
theorem k0_off26_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h11 : k0_cond11 k0_t1 arg12_r0 = 1#1), ∀ a, (k0_off26 arg9_r0) a + S1x512x1.size a ≤ S2x512x1.size a := fun k0_t1 arg6_r0 arg7_r0 arg8_r0 arg9_r0 arg10_r0 arg11_r0 arg12_r0 k0_hw1 k0_h11 => k0_hw1.2.2.2.2.2.2.2.2.2.2.2.2.2.2.1 k0_h11
theorem k0_off27_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h12 : k0_cond12 k0_t1 arg12_r0 = 1#1), ∀ a, (k0_off27 arg11_r0) a + S1.size a ≤ S2.size a := fun k0_t1 arg6_r0 arg7_r0 arg8_r0 arg9_r0 arg10_r0 arg11_r0 arg12_r0 k0_hw1 k0_h12 => k0_hw1.2.2.2.2.2.2.2.2.2.2.2.2.2.2.2.1 k0_h12
theorem k0_off28_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h12 : k0_cond12 k0_t1 arg12_r0 = 1#1), ∀ a, (k0_off28 arg12_r0) a + S512x64.size a ≤ S16384x64.size a := fun k0_t1 arg6_r0 arg7_r0 arg8_r0 arg9_r0 arg10_r0 arg11_r0 arg12_r0 k0_hw1 k0_h12 => k0_hw1.2.2.2.2.2.2.2.2.2.2.2.2.2.2.2.2.1 k0_h12
theorem k0_off29_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h12 : k0_cond12 k0_t1 arg12_r0 = 1#1), ∀ a, (k0_off29 arg11_r0) a + S1x512x64.size a ≤ S2x512x64.size a := fun k0_t1 arg6_r0 arg7_r0 arg8_r0 arg9_r0 arg10_r0 arg11_r0 arg12_r0 k0_hw1 k0_h12 => k0_hw1.2.2.2.2.2.2.2.2.2.2.2.2.2.2.2.2.2 k0_h12

def k0_off30 (v64_3_r0 : BitVec 32) : Fin 1 → Nat :=
  let c2_i32_r0 : BitVec 32 := 2#32
  let v95_r0 : BitVec 32 := Scalar.remui v64_3_r0 c2_i32_r0
  ![v95_r0.toNat]

def k0_off31 (v64_6_r0 : BitVec 32) : Fin 2 → Nat :=
  let c512_i32_r0 : BitVec 32 := 512#32
  let true_53_r0 : BitVec 1 := 1#1
  let c1_i32_52_r0 : BitVec 32 := 1#32
  let v65_r0 : BitVec 32 := Scalar.subi v64_6_r0 c1_i32_52_r0
  let v66_r0 : BitVec 32 := Scalar.select true_53_r0 v65_r0 v64_6_r0
  let c_m1_i32_54_r0 : BitVec 32 := 4294967295#32
  let v67_r0 : BitVec 1 := Scalar.cmpi .eq v66_r0 c_m1_i32_54_r0
  let c31_i32_55_r0 : BitVec 32 := 31#32
  let v68_r0 : BitVec 32 := Scalar.select v67_r0 c31_i32_55_r0 v66_r0
  let c0_i32_56_r0 : BitVec 32 := 0#32
  let v69_r0 : BitVec 32 := Scalar.addi v68_r0 c0_i32_56_r0
  let v96_r0 : BitVec 32 := Scalar.muli c512_i32_r0 v69_r0
  let c0_i32_82_r0 : BitVec 32 := 0#32
  ![v96_r0.toNat, 0]

def k0_off32 (v64_3_r0 : BitVec 32) : Fin 3 → Nat :=
  let c2_i32_r0 : BitVec 32 := 2#32
  let v95_r0 : BitVec 32 := Scalar.remui v64_3_r0 c2_i32_r0
  let c0_i32_83_r0 : BitVec 32 := 0#32
  let c0_i32_84_r0 : BitVec 32 := 0#32
  ![v95_r0.toNat, 0, 0]

def k0_chk5 (v64_3_r0 : BitVec 32) : Prop :=
  (∀ a, (k0_off30 v64_3_r0) a + S1.size a ≤ S2.size a) ∧
  (∀ a, (k0_off32 v64_3_r0) a + S1x512x1.size a ≤ S2x512x1.size a)
theorem k0_off30_inb : ∀ (v64_3_r0 : BitVec 32) (k0_hw5 : k0_chk5 v64_3_r0), ∀ a, (k0_off30 v64_3_r0) a + S1.size a ≤ S2.size a := fun v64_3_r0 k0_hw5 => k0_hw5.1
theorem k0_off32_inb : ∀ (v64_3_r0 : BitVec 32) (k0_hw5 : k0_chk5 v64_3_r0), ∀ a, (k0_off32 v64_3_r0) a + S1x512x1.size a ≤ S2x512x1.size a := fun v64_3_r0 k0_hw5 => k0_hw5.2

def k0_off33 (v64_5_r0 : BitVec 32) : Fin 1 → Nat :=
  let c2_i32_85_r0 : BitVec 32 := 2#32
  let v102_r0 : BitVec 32 := Scalar.remui v64_5_r0 c2_i32_85_r0
  ![v102_r0.toNat]

def k0_off34 (v64_6_r0 : BitVec 32) : Fin 2 → Nat :=
  let c512_i32_86_r0 : BitVec 32 := 512#32
  let true_53_r0 : BitVec 1 := 1#1
  let c1_i32_52_r0 : BitVec 32 := 1#32
  let v65_r0 : BitVec 32 := Scalar.subi v64_6_r0 c1_i32_52_r0
  let v66_r0 : BitVec 32 := Scalar.select true_53_r0 v65_r0 v64_6_r0
  let c_m1_i32_54_r0 : BitVec 32 := 4294967295#32
  let v67_r0 : BitVec 1 := Scalar.cmpi .eq v66_r0 c_m1_i32_54_r0
  let c31_i32_55_r0 : BitVec 32 := 31#32
  let v68_r0 : BitVec 32 := Scalar.select v67_r0 c31_i32_55_r0 v66_r0
  let c0_i32_56_r0 : BitVec 32 := 0#32
  let v69_r0 : BitVec 32 := Scalar.addi v68_r0 c0_i32_56_r0
  let v103_r0 : BitVec 32 := Scalar.muli c512_i32_86_r0 v69_r0
  let c0_i32_87_r0 : BitVec 32 := 0#32
  ![v103_r0.toNat, 0]

def k0_chk6 (v64_6_r0 : BitVec 32) : Prop :=
  (∀ a, (k0_off31 v64_6_r0) a + S512x1.size a ≤ S16384x1.size a) ∧
  (∀ a, (k0_off34 v64_6_r0) a + S512x64.size a ≤ S16384x64.size a)
theorem k0_off31_inb : ∀ (v64_6_r0 : BitVec 32) (k0_hw6 : k0_chk6 v64_6_r0), ∀ a, (k0_off31 v64_6_r0) a + S512x1.size a ≤ S16384x1.size a := fun v64_6_r0 k0_hw6 => k0_hw6.1
theorem k0_off34_inb : ∀ (v64_6_r0 : BitVec 32) (k0_hw6 : k0_chk6 v64_6_r0), ∀ a, (k0_off34 v64_6_r0) a + S512x64.size a ≤ S16384x64.size a := fun v64_6_r0 k0_hw6 => k0_hw6.2

def k0_off35 (v64_5_r0 : BitVec 32) : Fin 3 → Nat :=
  let c2_i32_85_r0 : BitVec 32 := 2#32
  let v102_r0 : BitVec 32 := Scalar.remui v64_5_r0 c2_i32_85_r0
  let c0_i32_88_r0 : BitVec 32 := 0#32
  let c0_i32_89_r0 : BitVec 32 := 0#32
  ![v102_r0.toNat, 0, 0]

def k0_chk7 (v64_5_r0 : BitVec 32) : Prop :=
  (∀ a, (k0_off33 v64_5_r0) a + S1.size a ≤ S2.size a) ∧
  (∀ a, (k0_off35 v64_5_r0) a + S1x512x64.size a ≤ S2x512x64.size a)
theorem k0_off33_inb : ∀ (v64_5_r0 : BitVec 32) (k0_hw7 : k0_chk7 v64_5_r0), ∀ a, (k0_off33 v64_5_r0) a + S1.size a ≤ S2.size a := fun v64_5_r0 k0_hw7 => k0_hw7.1
theorem k0_off35_inb : ∀ (v64_5_r0 : BitVec 32) (k0_hw7 : k0_chk7 v64_5_r0), ∀ a, (k0_off35 v64_5_r0) a + S1x512x64.size a ≤ S2x512x64.size a := fun v64_5_r0 k0_hw7 => k0_hw7.2

abbrev stage0_0 : Fin 1 → Memref sig .tc .vmem S4096x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== KernelIdeal.lean ====
variable {F : FTy → Type} [FloatOps F]
-- ==== ReferenceIdeal.lean ====
abbrev S4x4096x4096 : Shape := ⟨3, ![4, 4096, 4096]⟩
abbrev S64x4096 : Shape := ⟨2, ![64, 4096]⟩
abbrev S4x4096x64 : Shape := ⟨3, ![4, 4096, 64]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 23
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S64x4096, .f32⟩
  | .hbm, ⟨2, _⟩ => ⟨S64x4096, .f32⟩
  | .hbm, ⟨3, _⟩ => ⟨S4x4096x64, .f32⟩
  | .hbm, ⟨4, _⟩ => ⟨S4x4096x64, .i32⟩
  | .hbm, ⟨5, _⟩ => ⟨S_, .f32⟩
  | .hbm, ⟨6, _⟩ => ⟨S_, .i32⟩
  | .hbm, ⟨7, _⟩ => ⟨S4x4096, .f32⟩
  | .hbm, ⟨8, _⟩ => ⟨S4x4096, .i32⟩
  | .hbm, ⟨9, _⟩ => ⟨S_, .f32⟩
  | .hbm, ⟨10, _⟩ => ⟨S4x4096, .f32⟩
  | .hbm, ⟨11, _⟩ => ⟨S_, .f32⟩
  | .hbm, ⟨12, _⟩ => ⟨S4x4096, .f32⟩
  | .hbm, ⟨13, _⟩ => ⟨S4x4096, .f32⟩
  | .hbm, ⟨14, _⟩ => ⟨S4x4096x1, .f32⟩
  | .hbm, ⟨15, _⟩ => ⟨S4x4096x64, .f32⟩
  | .hbm, ⟨16, _⟩ => ⟨S4x4096x64, .f32⟩
  | .hbm, ⟨17, _⟩ => ⟨S4x4096x64, .f32⟩
  | .hbm, ⟨18, _⟩ => ⟨S_, .f32⟩
  | .hbm, ⟨19, _⟩ => ⟨S4x4096, .f32⟩
  | .hbm, ⟨20, _⟩ => ⟨S4x4096x1, .f32⟩
  | .hbm, ⟨21, _⟩ => ⟨S4x4096x64, .f32⟩
  | .hbm, ⟨22, _⟩ => ⟨S4x4096x64, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_c : Ref sig .tc := ⟨.hbm, 6, rfl⟩
abbrev main_call0_v1_0 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Proof.IdealNames.lean ====
/-
  The copies of the pipelined call, named. The body keeps three rings: four slots for the blocks of `x` on their way in,
  two for the blocks of row indices and two for the blocks of probabilities on their way out. The loop carries seven
  words; before trip `k` they are `word6 k`, …, `word12 k`, and every offset computed from them is a slot's, a cell's or a
  block's. Each slice the program takes gets the name of the block, slot or cell it is.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Ring
public import Idealize.ShloMosaic.Lib.Ring.Trips
public import Idealize.ShloMosaic.Lib.Ring.WriteBehind
public import Idealize.ShloMosaic.Lib.Tactic

@[expose] public section

noncomputable section

namespace Cert.Proof.KI

open Cert.KernelIdeal Cert.KernelIdeal.Gen
open Idealize.ShloMosaic Idealize.ShloMosaic.TcCoe Idealize.ShloMosaic.Tactic

/-! ## The carried words -/

/-- How many blocks have been asked for before trip `k`. -/
def word6 (k : ℕ) : BitVec 32 := BitVec.ofNat 32 (min (k + 3) 32)
/-- How many blocks have been used before trip `k`. -/
def word7 (k : ℕ) : BitVec 32 := BitVec.ofNat 32 k
/-- How many blocks of results have been waited for before trip `k`. -/
def word9 (k : ℕ) : BitVec 32 := BitVec.ofNat 32 (k - 1)
/-- The grid step of trip `k`, wrapped to zero after the last. -/
def word12 (k : ℕ) : BitVec 32 := BitVec.ofNat 32 (k % 32)

/-- What the loop carries before trip `k`. -/
def carry (k : ℕ) : BitVec 32 × BitVec 32 × BitVec 32 × BitVec 32 × BitVec 32 × BitVec 32 × BitVec 32 :=
  (word6 k, word7 k, word7 k, word9 k, word7 k, word9 k, word12 k)

theorem trips_eq : k0_t1_loop.trips = 32 := by decide +kernel

/-! ## Offsets at the carried words -/

abbrev cell4Off (s : Fin 4) : Fin 1 → Nat := ![s.val]
abbrev cell2Off (s : Fin 2) : Fin 1 → Nat := ![s.val]
abbrev slot4Off (s : Fin 4) : Fin 3 → Nat := ![s.val, 0, 0]
abbrev slot2Off (s : Fin 2) : Fin 3 → Nat := ![s.val, 0, 0]
abbrev rowOff (b : Fin 32) : Fin 2 → Nat := ![512 * b.val, 0]

theorem off9_at : ∀ k : Fin k0_t1_loop.trips, k.val + 3 < 32 → k0_off9 (word6 k.val) = cell4Off (Ring.sl 4 (k.val + 3)) := by decide +kernel
theorem off10_at : ∀ k : Fin k0_t1_loop.trips, k.val + 3 < 32 → k0_off10 (word6 k.val) = slot4Off (Ring.sl 4 (k.val + 3)) := by decide +kernel
theorem off11_at : ∀ k : Fin k0_t1_loop.trips, k.val + 3 < 32 → k0_off11 (word12 k.val) = rowOff (Ring.bk 32 (k.val + 3)) := by decide +kernel
theorem off12_at : ∀ k : Fin k0_t1_loop.trips, k0_off12 (word7 k.val) = cell4Off (Ring.sl 4 k.val) := by decide +kernel
theorem off13_at : ∀ k : Fin k0_t1_loop.trips, k0_off13 (word7 k.val) = slot4Off (Ring.sl 4 k.val) := by decide +kernel
theorem off14_at : ∀ k : Fin k0_t1_loop.trips, k0_off14 (word12 k.val) = rowOff (Ring.bk 32 k.val) := by decide +kernel
theorem off15_at : ∀ k : Fin k0_t1_loop.trips, k0_off15 (word7 k.val) = slot4Off (Ring.sl 4 k.val) := by decide +kernel
theorem off16_at : ∀ k : Fin k0_t1_loop.trips, k0_off16 (word7 k.val) = slot2Off (Ring.sl 2 k.val) := by decide +kernel
theorem off17_at : ∀ k : Fin k0_t1_loop.trips, k0_off17 (word7 k.val) = slot2Off (Ring.sl 2 k.val) := by decide +kernel
theorem off18_at : ∀ k : Fin k0_t1_loop.trips, k0_off18 (word7 k.val) = cell2Off (Ring.sl 2 k.val) := by decide +kernel
theorem off19_at : ∀ k : Fin k0_t1_loop.trips, k0_off19 (word12 k.val) = rowOff (Ring.bk 32 k.val) := by decide +kernel
theorem off20_at : ∀ k : Fin k0_t1_loop.trips, k0_off20 (word7 k.val) = slot2Off (Ring.sl 2 k.val) := by decide +kernel
theorem off21_at : ∀ k : Fin k0_t1_loop.trips, k0_off21 (word7 k.val) = cell2Off (Ring.sl 2 k.val) := by decide +kernel
theorem off22_at : ∀ k : Fin k0_t1_loop.trips, k0_off22 (word12 k.val) = rowOff (Ring.bk 32 k.val) := by decide +kernel
theorem off23_at : ∀ k : Fin k0_t1_loop.trips, k0_off23 (word7 k.val) = slot2Off (Ring.sl 2 k.val) := by decide +kernel
theorem off24_at : ∀ k : Fin k0_t1_loop.trips, 1 ≤ k.val → k0_off24 (word9 k.val) = cell2Off (Ring.sl 2 (k.val + 1)) := by decide +kernel
theorem off25_at : ∀ k : Fin k0_t1_loop.trips, 1 ≤ k.val → k0_off25 (word12 k.val) = rowOff (Ring.bk 32 (k.val - 1)) := by decide +kernel
theorem off26_at : ∀ k : Fin k0_t1_loop.trips, 1 ≤ k.val → k0_off26 (word9 k.val) = slot2Off (Ring.sl 2 (k.val + 1)) := by decide +kernel
theorem off27_at : ∀ k : Fin k0_t1_loop.trips, 1 ≤ k.val → k0_off27 (word9 k.val) = cell2Off (Ring.sl 2 (k.val + 1)) := by decide +kernel
theorem off28_at : ∀ k : Fin k0_t1_loop.trips, 1 ≤ k.val → k0_off28 (word12 k.val) = rowOff (Ring.bk 32 (k.val - 1)) := by decide +kernel
theorem off29_at : ∀ k : Fin k0_t1_loop.trips, 1 ≤ k.val → k0_off29 (word9 k.val) = slot2Off (Ring.sl 2 (k.val + 1)) := by decide +kernel

theorem off30_at : k0_off30 (word9 32) = cell2Off 1 := by decide +kernel
theorem off31_at : k0_off31 (word12 32) = rowOff 31 := by decide +kernel
theorem off32_at : k0_off32 (word9 32) = slot2Off 1 := by decide +kernel
theorem off33_at : k0_off33 (word9 32) = cell2Off 1 := by decide +kernel
theorem off34_at : k0_off34 (word12 32) = rowOff 31 := by decide +kernel
theorem off35_at : k0_off35 (word9 32) = slot2Off 1 := by decide +kernel

/-! ## Conditions and checks at the carried words -/

theorem cond3_yes : ∀ k : Fin k0_t1_loop.trips, k.val + 3 < 32 → k0_cond3 k (word12 k.val) = 1#1 := by decide +kernel
theorem cond3_no : ∀ k : Fin k0_t1_loop.trips, ¬ k.val + 3 < 32 → ¬ k0_cond3 k (word12 k.val) = 1#1 := by decide +kernel
theorem cond4_yes : ∀ k : Fin k0_t1_loop.trips, k0_cond4 k (word12 k.val) = 1#1 := by decide +kernel
theorem cond8_yes : ∀ k : Fin k0_t1_loop.trips, k0_cond8 k (word12 k.val) = 1#1 := by decide +kernel
theorem cond9_yes : ∀ k : Fin k0_t1_loop.trips, k0_cond9 k (word12 k.val) = 1#1 := by decide +kernel
theorem cond11_yes : ∀ k : Fin k0_t1_loop.trips, 1 ≤ k.val → k0_cond11 k (word12 k.val) = 1#1 := by decide +kernel
theorem cond11_no : ∀ k : Fin k0_t1_loop.trips, ¬ 1 ≤ k.val → ¬ k0_cond11 k (word12 k.val) = 1#1 := by decide +kernel
theorem cond12_yes : ∀ k : Fin k0_t1_loop.trips, 1 ≤ k.val → k0_cond12 k (word12 k.val) = 1#1 := by decide +kernel
theorem cond12_no : ∀ k : Fin k0_t1_loop.trips, ¬ 1 ≤ k.val → ¬ k0_cond12 k (word12 k.val) = 1#1 := by decide +kernel

theorem chk1_at : ∀ k : Fin k0_t1_loop.trips,
    k0_chk1 k (word6 k.val) (word7 k.val) (word7 k.val) (word9 k.val) (word7 k.val) (word9 k.val) (word12 k.val) := by decide +kernel
theorem chk2_at : ∀ k : Fin k0_t1_loop.trips, k0_chk2 (word7 k.val) := by decide +kernel
theorem chk3_at : ∀ k : Fin k0_t1_loop.trips, k0_chk3 (word7 k.val) := by decide +kernel
theorem chk4_at : ∀ k : Fin k0_t1_loop.trips, k0_chk4 (word7 k.val) := by decide +kernel
theorem chk5_at : k0_chk5 (word9 32) := by decide +kernel
theorem chk6_at : k0_chk6 (word12 32) := by decide +kernel
theorem chk7_at : k0_chk7 (word9 32) := by decide +kernel

/-! ## Blocks, slots and cells -/

abbrev xM : Memref sig .tc .hbm S16384x4096 .f32 := Memref.whole main_v0
abbrev iM : Memref sig .tc .hbm S16384x1 .i32 := Memref.whole main_v2_0
abbrev pM : Memref sig .tc .hbm S16384x64 .f32 := Memref.whole main_v2_1
abbrev gM : Memref sig .tc .vmem S4096x64 .bf16 := Memref.whole cc0_scratch0
abbrev xR : Memref sig .tc .vmem S4x512x4096 .f32 := Memref.whole cc0_scoped0
abbrev iR : Memref sig .tc .vmem S2x512x1 .i32 := Memref.whole cc0_scoped2
abbrev pR : Memref sig .tc .vmem S2x512x64 .f32 := Memref.whole cc0_scoped4

theorem cell4_in (s : Fin 4) : ∀ a, cell4Off s a + S1.size a ≤ S4.size a := by
  have := s.isLt; intro a; fin_cases a; show s.val + 1 ≤ 4; omega
theorem cell2_in (s : Fin 2) : ∀ a, cell2Off s a + S1.size a ≤ S2.size a := by
  have := s.isLt; intro a; fin_cases a; show s.val + 1 ≤ 2; omega
theorem xslot_in (s : Fin 4) : ∀ a, slot4Off s a + S1x512x4096.size a ≤ S4x512x4096.size a := by
  have := s.isLt; intro a; fin_cases a
  · show s.val + 1 ≤ 4; omega
  · show 0 + 512 ≤ 512; omega
  · show 0 + 4096 ≤ 4096; omega
theorem islot_in (s : Fin 2) : ∀ a, slot2Off s a + S1x512x1.size a ≤ S2x512x1.size a := by
  have := s.isLt; intro a; fin_cases a
  · show s.val + 1 ≤ 2; omega
  · show 0 + 512 ≤ 512; omega
  · show 0 + 1 ≤ 1; omega
theorem pslot_in (s : Fin 2) : ∀ a, slot2Off s a + S1x512x64.size a ≤ S2x512x64.size a := by
  have := s.isLt; intro a; fin_cases a
  · show s.val + 1 ≤ 2; omega
  · show 0 + 512 ≤ 512; omega
  · show 0 + 64 ≤ 64; omega
theorem xblk_in (b : Fin 32) : ∀ a, rowOff b a + S512x4096.size a ≤ S16384x4096.size a := by
  have := b.isLt; intro a; fin_cases a
  · show 512 * b.val + 512 ≤ 16384; omega
  · show 0 + 4096 ≤ 4096; omega
theorem iblk_in (b : Fin 32) : ∀ a, rowOff b a + S512x1.size a ≤ S16384x1.size a := by
  have := b.isLt; intro a; fin_cases a
  · show 512 * b.val + 512 ≤ 16384; omega
  · show 0 + 1 ≤ 1; omega
theorem pblk_in (b : Fin 32) : ∀ a, rowOff b a + S512x64.size a ≤ S16384x64.size a := by
  have := b.isLt; intro a; fin_cases a
  · show 512 * b.val + 512 ≤ 16384; omega
  · show 0 + 64 ≤ 64; omega

/-- Block `b` of the tokens: rows `512 b` to `512 b + 511`. -/
def xblk (b : Fin 32) : Memref sig .tc .hbm S512x4096 .f32 :=
  xM.slice (Rect.unit (s := S16384x4096) (rowOff b) S512x4096.size (xblk_in b)) (fun _ => rfl)
/-- Block `b` of the row indices. -/
def iblkM (b : Fin 32) : Memref sig .tc .hbm S512x1 .i32 :=
  iM.slice (Rect.unit (s := S16384x1) (rowOff b) S512x1.size (iblk_in b)) (fun _ => rfl)
/-- Block `b` of the probabilities. -/
def pblk (b : Fin 32) : Memref sig .tc .hbm S512x64 .f32 :=
  pM.slice (Rect.unit (s := S16384x64) (rowOff b) S512x64.size (pblk_in b)) (fun _ => rfl)
/-- Slot `s` of the ring of tokens. -/
def xslot (s : Fin 4) : Memref sig .tc .vmem S512x4096 .f32 :=
  (xR.slice (Rect.unit (s := S4x512x4096) (slot4Off s) S1x512x4096.size (xslot_in s)) (fun _ => rfl)).squeeze S512x4096 squeezes_S1x512x4096_S512x4096
/-- Slot `s` of the ring of row indices. -/
def islot (s : Fin 2) : Memref sig .tc .vmem S512x1 .i32 :=
  (iR.slice (Rect.unit (s := S2x512x1) (slot2Off s) S1x512x1.size (islot_in s)) (fun _ => rfl)).squeeze S512x1 squeezes_S1x512x1_S512x1
/-- Slot `s` of the ring of probabilities. -/
def pslot (s : Fin 2) : Memref sig .tc .vmem S512x64 .f32 :=
  (pR.slice (Rect.unit (s := S2x512x64) (slot2Off s) S1x512x64.size (pslot_in s)) (fun _ => rfl)).squeeze S512x64 squeezes_S1x512x64_S512x64
/-- The cells of the three rings. -/
def xcell (s : Fin 4) : DmaSems sig S_ := (cc0_scoped1.slice (Rect.unit (s := S4) (cell4Off s) S1.size (cell4_in s))).squeeze S_ squeezes_S1_S_
def icell (s : Fin 2) : DmaSems sig S_ := (cc0_scoped3.slice (Rect.unit (s := S2) (cell2Off s) S1.size (cell2_in s))).squeeze S_ squeezes_S1_S_
def pcell (s : Fin 2) : DmaSems sig S_ := (cc0_scoped5.slice (Rect.unit (s := S2) (cell2Off s) S1.size (cell2_in s))).squeeze S_ squeezes_S1_S_

/-! ## A slice at an offset is the block, slot or cell at that offset -/

theorem xblk_of {off : Fin 2 → Nat} {b : Fin 32} (e : off = rowOff b) (hh hs) :
    xM.slice (Rect.unit (s := S16384x4096) off S512x4096.size hh) hs = xblk b := Memref.slice_unit_congr _ e hh (xblk_in b) hs (fun _ => rfl)
theorem iblk_of {off : Fin 2 → Nat} {b : Fin 32} (e : off = rowOff b) (hh hs) :
    iM.slice (Rect.unit (s := S16384x1) off S512x1.size hh) hs = iblkM b := Memref.slice_unit_congr _ e hh (iblk_in b) hs (fun _ => rfl)
theorem pblk_of {off : Fin 2 → Nat} {b : Fin 32} (e : off = rowOff b) (hh hs) :
    pM.slice (Rect.unit (s := S16384x64) off S512x64.size hh) hs = pblk b := Memref.slice_unit_congr _ e hh (pblk_in b) hs (fun _ => rfl)
theorem xslot_of {off : Fin 3 → Nat} {s : Fin 4} (e : off = slot4Off s) (hh hs) :
    (xR.slice (Rect.unit (s := S4x512x4096) off S1x512x4096.size hh) hs).squeeze S512x4096 squeezes_S1x512x4096_S512x4096 = xslot s :=
  congrArg (fun M : Memref sig .tc .vmem S1x512x4096 .f32 => M.squeeze S512x4096 squeezes_S1x512x4096_S512x4096) (Memref.slice_unit_congr _ e _ _ _ _)
theorem islot_of {off : Fin 3 → Nat} {s : Fin 2} (e : off = slot2Off s) (hh hs) :
    (iR.slice (Rect.unit (s := S2x512x1) off S1x512x1.size hh) hs).squeeze S512x1 squeezes_S1x512x1_S512x1 = islot s :=
  congrArg (fun M : Memref sig .tc .vmem S1x512x1 .i32 => M.squeeze S512x1 squeezes_S1x512x1_S512x1) (Memref.slice_unit_congr _ e _ _ _ _)
theorem pslot_of {off : Fin 3 → Nat} {s : Fin 2} (e : off = slot2Off s) (hh hs) :
    (pR.slice (Rect.unit (s := S2x512x64) off S1x512x64.size hh) hs).squeeze S512x64 squeezes_S1x512x64_S512x64 = pslot s :=
  congrArg (fun M : Memref sig .tc .vmem S1x512x64 .f32 => M.squeeze S512x64 squeezes_S1x512x64_S512x64) (Memref.slice_unit_congr _ e _ _ _ _)
theorem xcell_of {off : Fin 1 → Nat} {s : Fin 4} (e : off = cell4Off s) (hh) :
    (cc0_scoped1.slice (Rect.unit (s := S4) off S1.size hh)).squeeze S_ squeezes_S1_S_ = xcell s :=
  congrArg (fun M : DmaSems sig S1 => M.squeeze S_ squeezes_S1_S_) (SemArray.slice_unit_congr _ e _ _)
theorem icell_of {off : Fin 1 → Nat} {s : Fin 2} (e : off = cell2Off s) (hh) :
    (cc0_scoped3.slice (Rect.unit (s := S2) off S1.size hh)).squeeze S_ squeezes_S1_S_ = icell s :=
  congrArg (fun M : DmaSems sig S1 => M.squeeze S_ squeezes_S1_S_) (SemArray.slice_unit_congr _ e _ _)
theorem pcell_of {off : Fin 1 → Nat} {s : Fin 2} (e : off = cell2Off s) (hh) :
    (cc0_scoped5.slice (Rect.unit (s := S2) off S1.size hh)).squeeze S_ squeezes_S1_S_ = pcell s :=
  congrArg (fun M : DmaSems sig S1 => M.squeeze S_ squeezes_S1_S_) (SemArray.slice_unit_congr _ e _ _)

/-! ## The program's slices -/

section Prologue
@[sl_canon] theorem start_cell0 (hh) : (cc0_scoped1.slice (Rect.unit (s := S4) k0_off1 S1.size hh)).squeeze S_ squeezes_S1_S_ = xcell 0 := xcell_of (by decide +kernel) _
@[sl_canon] theorem start_slot0 (hh hs) : (xR.slice (Rect.unit (s := S4x512x4096) k0_off2 S1x512x4096.size hh) hs).squeeze S512x4096 squeezes_S1x512x4096_S512x4096 = xslot 0 := xslot_of (by decide +kernel) _ _
@[sl_canon] theorem start_blk0 (hh hs) : xM.slice (Rect.unit (s := S16384x4096) ![0, 0] S512x4096.size hh) hs = xblk 0 := xblk_of (by decide +kernel) _ _
@[sl_canon] theorem start_cell1 (hh) : (cc0_scoped1.slice (Rect.unit (s := S4) k0_off3 S1.size hh)).squeeze S_ squeezes_S1_S_ = xcell 1 := xcell_of (by decide +kernel) _
@[sl_canon] theorem start_slot1 (hh hs) : (xR.slice (Rect.unit (s := S4x512x4096) k0_off4 S1x512x4096.size hh) hs).squeeze S512x4096 squeezes_S1x512x4096_S512x4096 = xslot 1 := xslot_of (by decide +kernel) _ _
@[sl_canon] theorem start_blk1 (hh hs) : xM.slice (Rect.unit (s := S16384x4096) k0_off5 S512x4096.size hh) hs = xblk 1 := xblk_of (by decide +kernel) _ _
@[sl_canon] theorem start_cell2 (hh) : (cc0_scoped1.slice (Rect.unit (s := S4) k0_off6 S1.size hh)).squeeze S_ squeezes_S1_S_ = xcell 2 := xcell_of (by decide +kernel) _
@[sl_canon] theorem start_slot2 (hh hs) : (xR.slice (Rect.unit (s := S4x512x4096) k0_off7 S1x512x4096.size hh) hs).squeeze S512x4096 squeezes_S1x512x4096_S512x4096 = xslot 2 := xslot_of (by decide +kernel) _ _
@[sl_canon] theorem start_blk2 (hh hs) : xM.slice (Rect.unit (s := S16384x4096) k0_off8 S512x4096.size hh) hs = xblk 2 := xblk_of (by decide +kernel) _ _
end Prologue

section Trip
variable (k : Fin k0_t1_loop.trips)
@[sl_canon] theorem next_cell (hk : k.val + 3 < 32) (hh) : (cc0_scoped1.slice (Rect.unit (s := S4) (k0_off9 (word6 k.val)) S1.size hh)).squeeze S_ squeezes_S1_S_ = xcell (Ring.sl 4 (k.val + 3)) := xcell_of (off9_at k hk) _
@[sl_canon] theorem next_slot (hk : k.val + 3 < 32) (hh hs) : (xR.slice (Rect.unit (s := S4x512x4096) (k0_off10 (word6 k.val)) S1x512x4096.size hh) hs).squeeze S512x4096 squeezes_S1x512x4096_S512x4096 = xslot (Ring.sl 4 (k.val + 3)) := xslot_of (off10_at k hk) _ _
@[sl_canon] theorem next_blk (hk : k.val + 3 < 32) (hh hs) : xM.slice (Rect.unit (s := S16384x4096) (k0_off11 (word12 k.val)) S512x4096.size hh) hs = xblk (Ring.bk 32 (k.val + 3)) := xblk_of (off11_at k hk) _ _
@[sl_canon] theorem here_cell (hh) : (cc0_scoped1.slice (Rect.unit (s := S4) (k0_off12 (word7 k.val)) S1.size hh)).squeeze S_ squeezes_S1_S_ = xcell (Ring.sl 4 k.val) := xcell_of (off12_at k) _
@[sl_canon] theorem here_slot (hh hs) : (xR.slice (Rect.unit (s := S4x512x4096) (k0_off13 (word7 k.val)) S1x512x4096.size hh) hs).squeeze S512x4096 squeezes_S1x512x4096_S512x4096 = xslot (Ring.sl 4 k.val) := xslot_of (off13_at k) _ _
@[sl_canon] theorem here_blk (hh hs) : xM.slice (Rect.unit (s := S16384x4096) (k0_off14 (word12 k.val)) S512x4096.size hh) hs = xblk (Ring.bk 32 k.val) := xblk_of (off14_at k) _ _
@[sl_canon] theorem iout_cell (hh) : (cc0_scoped3.slice (Rect.unit (s := S2) (k0_off18 (word7 k.val)) S1.size hh)).squeeze S_ squeezes_S1_S_ = icell (Ring.sl 2 k.val) := icell_of (off18_at k) _
@[sl_canon] theorem iout_blk (hh hs) : iM.slice (Rect.unit (s := S16384x1) (k0_off19 (word12 k.val)) S512x1.size hh) hs = iblkM (Ring.bk 32 k.val) := iblk_of (off19_at k) _ _
@[sl_canon] theorem iout_slot (hh hs) : (iR.slice (Rect.unit (s := S2x512x1) (k0_off20 (word7 k.val)) S1x512x1.size hh) hs).squeeze S512x1 squeezes_S1x512x1_S512x1 = islot (Ring.sl 2 k.val) := islot_of (off20_at k) _ _
@[sl_canon] theorem pout_cell (hh) : (cc0_scoped5.slice (Rect.unit (s := S2) (k0_off21 (word7 k.val)) S1.size hh)).squeeze S_ squeezes_S1_S_ = pcell (Ring.sl 2 k.val) := pcell_of (off21_at k) _
@[sl_canon] theorem pout_blk (hh hs) : pM.slice (Rect.unit (s := S16384x64) (k0_off22 (word12 k.val)) S512x64.size hh) hs = pblk (Ring.bk 32 k.val) := pblk_of (off22_at k) _ _
@[sl_canon] theorem pout_slot (hh hs) : (pR.slice (Rect.unit (s := S2x512x64) (k0_off23 (word7 k.val)) S1x512x64.size hh) hs).squeeze S512x64 squeezes_S1x512x64_S512x64 = pslot (Ring.sl 2 k.val) := pslot_of (off23_at k) _ _
@[sl_canon] theorem iback_cell (hk : 1 ≤ k.val) (hh) : (cc0_scoped3.slice (Rect.unit (s := S2) (k0_off24 (word9 k.val)) S1.size hh)).squeeze S_ squeezes_S1_S_ = icell (Ring.sl 2 (k.val + 1)) := icell_of (off24_at k hk) _
@[sl_canon] theorem iback_blk (hk : 1 ≤ k.val) (hh hs) : iM.slice (Rect.unit (s := S16384x1) (k0_off25 (word12 k.val)) S512x1.size hh) hs = iblkM (Ring.bk 32 (k.val - 1)) := iblk_of (off25_at k hk) _ _
@[sl_canon] theorem iback_slot (hk : 1 ≤ k.val) (hh hs) : (iR.slice (Rect.unit (s := S2x512x1) (k0_off26 (word9 k.val)) S1x512x1.size hh) hs).squeeze S512x1 squeezes_S1x512x1_S512x1 = islot (Ring.sl 2 (k.val + 1)) := islot_of (off26_at k hk) _ _
@[sl_canon] theorem pback_cell (hk : 1 ≤ k.val) (hh) : (cc0_scoped5.slice (Rect.unit (s := S2) (k0_off27 (word9 k.val)) S1.size hh)).squeeze S_ squeezes_S1_S_ = pcell (Ring.sl 2 (k.val + 1)) := pcell_of (off27_at k hk) _
@[sl_canon] theorem pback_blk (hk : 1 ≤ k.val) (hh hs) : pM.slice (Rect.unit (s := S16384x64) (k0_off28 (word12 k.val)) S512x64.size hh) hs = pblk (Ring.bk 32 (k.val - 1)) := pblk_of (off28_at k hk) _ _
@[sl_canon] theorem pback_slot (hk : 1 ≤ k.val) (hh hs) : (pR.slice (Rect.unit (s := S2x512x64) (k0_off29 (word9 k.val)) S1x512x64.size hh) hs).squeeze S512x64 squeezes_S1x512x64_S512x64 = pslot (Ring.sl 2 (k.val + 1)) := pslot_of (off29_at k hk) _ _

instance : ClosedOff (k0_off15 (word7 k.val)) := ⟨slot4Off (Ring.sl 4 k.val), off15_at k⟩
instance : ClosedOff (k0_off16 (word7 k.val)) := ⟨slot2Off (Ring.sl 2 k.val), off16_at k⟩
instance : ClosedOff (k0_off17 (word7 k.val)) := ⟨slot2Off (Ring.sl 2 k.val), off17_at k⟩
end Trip

instance (s : Fin 4) : ClosedOff (slot4Off s) := ⟨slot4Off s, rfl⟩
instance (s : Fin 2) : ClosedOff (slot2Off s) := ⟨slot2Off s, rfl⟩
instance (b : Fin 32) : ClosedOff (rowOff b) := ⟨rowOff b, rfl⟩

section Epilogue
@[sl_canon] theorem end_icell (hh) : (cc0_scoped3.slice (Rect.unit (s := S2) (k0_off30 (word9 32)) S1.size hh)).squeeze S_ squeezes_S1_S_ = icell 1 := icell_of off30_at _
@[sl_canon] theorem end_iblk (hh hs) : iM.slice (Rect.unit (s := S16384x1) (k0_off31 (word12 32)) S512x1.size hh) hs = iblkM 31 := iblk_of off31_at _ _
@[sl_canon] theorem end_islot (hh hs) : (iR.slice (Rect.unit (s := S2x512x1) (k0_off32 (word9 32)) S1x512x1.size hh) hs).squeeze S512x1 squeezes_S1x512x1_S512x1 = islot 1 := islot_of off32_at _ _
@[sl_canon] theorem end_pcell (hh) : (cc0_scoped5.slice (Rect.unit (s := S2) (k0_off33 (word9 32)) S1.size hh)).squeeze S_ squeezes_S1_S_ = pcell 1 := pcell_of off33_at _
@[sl_canon] theorem end_pblk (hh hs) : pM.slice (Rect.unit (s := S16384x64) (k0_off34 (word12 32)) S512x64.size hh) hs = pblk 31 := pblk_of off34_at _ _
@[sl_canon] theorem end_pslot (hh hs) : (pR.slice (Rect.unit (s := S2x512x64) (k0_off35 (word9 32)) S1x512x64.size hh) hs).squeeze S512x64 squeezes_S1x512x64_S512x64 = pslot 1 := pslot_of off35_at _ _
end Epilogue

end Cert.Proof.KI

end
-- ==== Proof.IdealVals.lean ====
/-
  What a trip computes from its block of tokens, and what the slots read after it.
-/
module

public import proofs.«01_k».proof.Proof.IdealNames
public import proofs.«01_k».proof.Proof.Gen.KernelIdeal.Frame
public import Idealize.ShloMosaic.Lib.Pipeline.FrameSuffixV
public import Idealize.ShloMosaic.Lib.Pipeline.Value

@[expose] public section

noncomputable section

namespace Cert.Proof.KI

open Cert.KernelIdeal Cert.KernelIdeal.Gen
open Idealize.ShloMosaic Idealize.ShloMosaic.TcCoe Idealize.ShloMosaic.Tactic

variable {F : FTy → Type} [FloatOps F]

/-- A squeezed slice after a store through the memref reads what was stored, shape-cast. -/
theorem stored_gen {cs : Space} {s s' : Shape} {e : EltTy} (M : Memref sig .tc cs s e) (r : Rect s) (hr : ∀ a, r.stride a = 1) (hq : r.shape.Squeezes s')
    (hc : r.shape.ShapeCasts s') (f : M.view.ty.Contents (Elt F)) (v : r.shape.Idx → Elt F e) :
    ((M.slice r hr).squeeze s' hq).view.read (Elt F) (View.write (Elt F) (M.access r) f v Finset.univ) = shapeCast s' v hc := by
  have h : ((M.slice r hr).squeeze s' hq).view.read (Elt F) (View.write (Elt F) (M.access r) f v Finset.univ)
      = shapeCast s' ((M.access r).read (Elt F) (View.write (Elt F) (M.access r) f v Finset.univ)) hc := rfl
  rw [h, View.read_write_univ]

theorem casts_x : S512x4096.ShapeCasts S1x512x4096 := by decide +kernel

section Vals
variable (c : Dev nD) (XA : Buf (Elt F) (xM.view.loc (c : Thread nD τ))) (g : Buf (Elt F) (gM.view.loc (c : Thread nD τ)))

/-- The signs as a trip loads them. -/
def gval : Vec F S4096x64 .bf16 :=
  gM.view.readAt (Elt F) (Rect.unit (s := S4096x64) ![0, 0] S4096x64.size inb_S4096x64_S4096x64_0_0).toLoadRect g
/-- Block `b` of the tokens as a trip loads it. -/
def xval (b : Fin 32) : Vec F S1x512x4096 .f32 := shapeCast S1x512x4096 ((xblk b).view.read (Elt F) XA) casts_x
/-- The row indices a trip computes for block `b`. -/
def ival (b : Fin 32) : S512x1.Idx → Elt F .i32 :=
  shapeCast S512x1 (k0_pay3 (xval c XA b) (gval c g)) shapeCasts_S1x512x1_S512x1
/-- The probabilities a trip computes for block `b`. -/
def pval (b : Fin 32) : S512x64.Idx → Elt F .f32 :=
  shapeCast S512x64 (k0_pay4 (xval c XA b) (gval c g)) shapeCasts_S1x512x64_S512x64

/-- The load of an arrived slot gives the block. -/
theorem xload (s : Fin 4) (b : Fin 32) (f : Buf (Elt F) ((xslot s).view.loc (c : Thread nD τ))) {off : Fin 3 → Nat} (e : off = slot4Off s) (hh) :
    xR.view.readAt (Elt F) (Rect.unit (s := S4x512x4096) off S1x512x4096.size hh).toLoadRect
      ((xslot s).view.writes (Elt F) f [⟨Rect.whole S512x4096, ReadAs.same.apply ((xblk b).view.read (Elt F) XA)⟩])
      = xval c XA b := by
  subst e
  have h : (xslot s).view.read (Elt F) ((xslot s).view.writes (Elt F) f [⟨Rect.whole S512x4096, ReadAs.same.apply ((xblk b).view.read (Elt F) XA)⟩])
      = shapeCast S512x4096 (xR.view.readAt (Elt F) (Rect.unit (s := S4x512x4096) (slot4Off s) S1x512x4096.size hh).toLoadRect
      ((xslot s).view.writes (Elt F) f [⟨Rect.whole S512x4096, ReadAs.same.apply ((xblk b).view.read (Elt F) XA)⟩])) shapeCasts_S1x512x4096_S512x4096 :=
    Memref.read_squeeze_slice xR _ (fun _ => rfl) squeezes_S1x512x4096_S512x4096 _ _
  rw [View.read_writes_whole] at h
  have h2 := congrArg (fun q : S512x4096.Idx → Elt F .f32 => shapeCast S1x512x4096 q casts_x) h
  exact ((h2.trans (shapeCast_shapeCast _ _ _)).symm)

/-- A slot of row indices after the store reads what was stored. -/
theorem istored (s : Fin 2) (f : Buf (Elt F) ((islot s).view.loc (c : Thread nD τ))) {off : Fin 3 → Nat} (e : off = slot2Off s) (hh)
    (v : Vec F S1x512x1 .i32) :
    (islot s).view.read (Elt F) (View.write (Elt F) (iR.access (Rect.unit (s := S2x512x1) off S1x512x1.size hh)) f v Finset.univ)
      = shapeCast S512x1 v shapeCasts_S1x512x1_S512x1 := by
  subst e
  exact stored_gen iR (Rect.unit (s := S2x512x1) (slot2Off s) S1x512x1.size hh) (fun _ => rfl) squeezes_S1x512x1_S512x1 shapeCasts_S1x512x1_S512x1 f v

/-- A slot of probabilities after the store reads what was stored. -/
theorem pstored (s : Fin 2) (f : Buf (Elt F) ((pslot s).view.loc (c : Thread nD τ))) {off : Fin 3 → Nat} (e : off = slot2Off s) (hh)
    (v : Vec F S1x512x64 .f32) :
    (pslot s).view.read (Elt F) (View.write (Elt F) (pR.access (Rect.unit (s := S2x512x64) off S1x512x64.size hh)) f v Finset.univ)
      = shapeCast S512x64 v shapeCasts_S1x512x64_S512x64 := by
  subst e
  exact stored_gen pR (Rect.unit (s := S2x512x64) (slot2Off s) S1x512x64.size hh) (fun _ => rfl) squeezes_S1x512x64_S512x64 shapeCasts_S1x512x64_S512x64 f v

end Vals

end Cert.Proof.KI

end
-- ==== Proof.IdealTrip.lean ====
/-
  One trip of the pipelined call's loop.
-/
module

public import proofs.«01_k».proof.Proof.IdealVals
public import proofs.«01_k».proof.Proof.Gen.KernelIdeal.Frame
public import Idealize.ShloMosaic.Lib.Pipeline.FrameSuffixV

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ
abbrev 𝒱₀ : Variants := Variants.none

section Pieces
variable (c : Dev nD) (XA : Buf (Elt F) (xM.view.loc (c : Thread nD τ))) (g : Buf (Elt F) (gM.view.loc (c : Thread nD τ)))
variable (iv : Fin 32 → S512x1.Idx → Elt F .i32) (pv : Fin 32 → S512x64.Idx → Elt F .f32)

abbrev xcellP (s : Fin 4) : sProp 𝕄 := semVal ((c : Thread nD τ), SemLoc.dma (xcell s).sem) 0
abbrev icellP (s : Fin 2) : sProp 𝕄 := semVal ((c : Thread nD τ), SemLoc.dma (icell s).sem) 0
abbrev pcellP (s : Fin 2) : sProp 𝕄 := semVal ((c : Thread nD τ), SemLoc.dma (pcell s).sem) 0
abbrev xslotP (s : Fin 4) (f : Buf (Elt F) ((xslot s).view.loc (c : Thread nD τ))) : sProp 𝕄 :=
  (xslot s).view.loc (c : Thread nD τ) ↦[(xslot s).view.set]{fullShare} f
abbrev islotP (s : Fin 2) (f : Buf (Elt F) ((islot s).view.loc (c : Thread nD τ))) : sProp 𝕄 :=
  (islot s).view.loc (c : Thread nD τ) ↦[(islot s).view.set]{fullShare} f
abbrev pslotP (s : Fin 2) (f : Buf (Elt F) ((pslot s).view.loc (c : Thread nD τ))) : sProp 𝕄 :=
  (pslot s).view.loc (c : Thread nD τ) ↦[(pslot s).view.set]{fullShare} f
/-- A block of the tokens, held at the tokens. -/
abbrev xhome (b : Fin 32) : sProp 𝕄 := (xblk b).view.loc (c : Thread nD τ) ↦[(xblk b).view.set]{fullShare} XA
abbrev iblkP (b : Fin 32) (f : Buf (Elt F) ((iblkM b).view.loc (c : Thread nD τ))) : sProp 𝕄 :=
  (iblkM b).view.loc (c : Thread nD τ) ↦[(iblkM b).view.set]{fullShare} f
abbrev pblkP (b : Fin 32) (f : Buf (Elt F) ((pblk b).view.loc (c : Thread nD τ))) : sProp 𝕄 :=
  (pblk b).view.loc (c : Thread nD τ) ↦[(pblk b).view.set]{fullShare} f
/-- The signs of the router, held in their scratch buffer. -/
abbrev gP : sProp 𝕄 := gM.view.loc (c : Thread nD τ) ↦[gM.view.set]{fullShare} g

/-- A slot of the tokens' ring once block `b` has arrived over contents `f`. -/
abbrev arrived (s : Fin 4) (b : Fin 32) (f : Buf (Elt F) ((xslot s).view.loc (c : Thread nD τ))) : Buf (Elt F) ((xslot s).view.loc (c : Thread nD τ)) :=
  (xslot s).view.writes (Elt F) f [⟨Rect.whole S512x4096, ReadAs.same.apply ((xblk b).view.read (Elt F) XA)⟩]
/-- The slot free: held at anything, its cell at zero. -/
abbrev xfree (s : Fin 4) : sProp 𝕄 := iprop((∃ f, xslotP c s f) ∗ xcellP c s)
/-- Block `b` on its way into slot `s`. -/
abbrev xinfl (s : Fin 4) (b : Fin 32) : sProp 𝕄 :=
  iprop(∃ f, Transfers.Flight countersEmb (c : Thread nD τ) (SemLoc.dma (xcell s).sem) () 262144 iprop(xslotP c s (arrived c XA s b f) ∗ xhome c XA b))

abbrev ifree (s : Fin 2) : sProp 𝕄 := iprop((∃ f, islotP c s f) ∗ icellP c s)
abbrev pfree (s : Fin 2) : sProp 𝕄 := iprop((∃ f, pslotP c s f) ∗ pcellP c s)
/-- Block `b` of the row indices on its way out of slot `s`. -/
abbrev iinfl (s : Fin 2) (b : Fin 32) : sProp 𝕄 :=
  iprop(∃ (fd : Buf (Elt F) ((iblkM b).view.loc (c : Thread nD τ))) (fs : Buf (Elt F) ((islot s).view.loc (c : Thread nD τ))),
    Transfers.Flight countersEmb (c : Thread nD τ) (SemLoc.dma (icell s).sem) () 8192
      iprop(iblkP c b ((iblkM b).view.writes (Elt F) fd [⟨Rect.whole S512x1, ReadAs.same.apply ((islot s).view.read (Elt F) fs)⟩]) ∗ islotP c s fs)
    ∗ ⌜(islot s).view.read (Elt F) fs = iv b⌝)
abbrev pinfl (s : Fin 2) (b : Fin 32) : sProp 𝕄 :=
  iprop(∃ (fd : Buf (Elt F) ((pblk b).view.loc (c : Thread nD τ))) (fs : Buf (Elt F) ((pslot s).view.loc (c : Thread nD τ))),
    Transfers.Flight countersEmb (c : Thread nD τ) (SemLoc.dma (pcell s).sem) () 8192
      iprop(pblkP c b ((pblk b).view.writes (Elt F) fd [⟨Rect.whole S512x64, ReadAs.same.apply ((pslot s).view.read (Elt F) fs)⟩]) ∗ pslotP c s fs)
    ∗ ⌜(pslot s).view.read (Elt F) fs = pv b⌝)
abbrev iahead (b : Fin 32) : sProp 𝕄 := iprop(∃ f, iblkP c b f)
abbrev pahead (b : Fin 32) : sProp 𝕄 := iprop(∃ f, pblkP c b f)
abbrev ibehind (b : Fin 32) : sProp 𝕄 := iprop(∃ f, iblkP c b f ∗ ⌜(iblkM b).view.read (Elt F) f = iv b⌝)
abbrev pbehind (b : Fin 32) : sProp 𝕄 := iprop(∃ f, pblkP c b f ∗ ⌜(pblk b).view.read (Elt F) f = pv b⌝)

abbrev xrole (p : ℕ) : sProp 𝕄 := Ring.roleAt (xfree c (Ring.sl 4 p)) (xinfl c XA (Ring.sl 4 p)) p
abbrev iring (k : ℕ) : sProp 𝕄 := Ring.AtB 1 (ifree c) (iinfl c iv) (iahead c) (ibehind c iv) k
abbrev pring (k : ℕ) : sProp 𝕄 := Ring.AtB 1 (pfree c) (pinfl c pv) (pahead c) (pbehind c pv) k

theorem xhomes_here (k : ℕ) (hk : k + 3 < 32) :
    bigSep (Ring.homeSet 3 k) (xhome c XA) = iprop(xhome c XA (Ring.bk 32 (k + 3)) ∗ bigSep ((Ring.homeSet 3 k).erase (Ring.bk 32 (k + 3))) (xhome c XA)) :=
  Ring.bigSep_take (by rw [Ring.mem_homeSet, Ring.bk_val hk]; omega) _
theorem xhomes_next (k : ℕ) (hk : k + 3 < 32) :
    bigSep (Ring.homeSet 3 (k + 1)) (xhome c XA) = iprop(xhome c XA (Ring.bk 32 k) ∗ bigSep ((Ring.homeSet 3 k).erase (Ring.bk 32 (k + 3))) (xhome c XA)) := by
  rw [Ring.homeSet_succ 3 k hk, Ring.bigSep_put (Ring.bk_not_mem_erase 3 k (by omega) (by decide))]
theorem xhomes_last (k : ℕ) (h : 32 ≤ k + 3) (hk : k < 32) :
    bigSep (Ring.homeSet 3 (k + 1)) (xhome c XA) = iprop(xhome c XA (Ring.bk 32 k) ∗ bigSep (Ring.homeSet 3 k) (xhome c XA)) := by
  rw [Ring.homeSet_succ_tail 3 k h hk, Ring.bigSep_put (Ring.bk_not_mem_homeSet 3 k hk (by decide))]

end Pieces

section Before
variable (c : Dev nD) (XA : Buf (Elt F) (xM.view.loc (c : Thread nD τ))) (g : Buf (Elt F) (gM.view.loc (c : Thread nD τ)))

/-- What the core holds before trip `k`. -/
def before (k : ℕ) : sProp 𝕄 :=
  iprop(gP c g ∗ (∃ W, owes (c : Thread nD τ) 0 W) ∗ bigSep (Ring.homeSet 3 k) (xhome c XA)
    ∗ xrole c XA k ∗ xrole c XA (k + 1) ∗ xrole c XA (k + 2) ∗ xfree c (Ring.sl 4 (k + 3))
    ∗ iring c (ival c XA g) k ∗ pring c (pval c XA g) k)

end Before

section Trip
variable (c : Dev nD) (XA : Buf (Elt F) (xM.view.loc (c : Thread nD τ))) (g : Buf (Elt F) (gM.view.loc (c : Thread nD τ)))
variable (arg1 : Memref sig .tc .vmem S4096x64 .f32) (harg1 : arg1.IsWhole) (w : BitVec 32)

abbrev tripG (k : Fin k0_t1_loop.trips) (acc) :=
  k0_t1_body (F := F) xM (Memref.isWhole_whole _) arg1 harg1 iM (Memref.isWhole_whole _) pM (Memref.isWhole_whole _) gM (Memref.isWhole_whole _)
    xR (Memref.isWhole_whole _) cc0_scoped1 iR (Memref.isWhole_whole _) cc0_scoped3 pR (Memref.isWhole_whole _) cc0_scoped5 w 0#32 0#32 0#32 0#32 0#32 0#32 0#32 32#32 k acc

set_option backward.proofsInPublic true in
theorem trip_mid (k : Fin k0_t1_loop.trips) (h1 : 1 ≤ k.val) (hk3 : k.val + 3 < 32) :
    before c XA g k.val ⊢ wp frame (wpE (defs₀ (F := F)) 𝒱₀ (c : Thread nD τ) none) Set.univ
      (tripG (F := F) arg1 harg1 w k (carry k.val))
      (fun r => iprop(⌜r = carry (k.val + 1)⌝ ∗ before c XA g (k.val + 1))) := by
  have hk : k.val < 32 := lt_of_lt_of_eq k.isLt trips_eq
  have hc3 := cond3_yes k hk3
  have hc4 := cond4_yes k
  have hc8 := cond8_yes k
  have hc9 := cond9_yes k
  have hc11 := cond11_yes k h1
  have hc12 := cond12_yes k h1
  have hw1 := chk1_at k
  have hw2 := chk2_at k
  have hw3 := chk3_at k
  have hw4 := chk4_at k
  unfold before
  rw [xhomes_here c XA k.val hk3]
  unfold xrole iring pring
  rw [Ring.roleAt_of_lt _ _ k.val hk, Ring.AtB21_here _ _ _ _ k.val h1 hk, Ring.AtB21_here _ _ _ _ k.val h1 hk]
  iintro ⟨HG, ⟨%W, HW⟩, ⟨Hxn, Hxr⟩, ⟨%f0, HF0⟩, HR1, HR2, ⟨⟨%f3, HS3⟩, HC3⟩, ⟨⟨⟨%fi, HIB⟩, HIA⟩, HIbeh, ⟨⟨%fis, HIS⟩, HIC⟩, ⟨%gi, %gis, HIF, %hgi⟩⟩,
    ⟨⟨⟨%fp, HPB⟩, HPA⟩, HPbeh, ⟨⟨%fps, HPS⟩, HPC⟩, ⟨%gp, %gps, HPF, %hgp⟩⟩⟩
  dsimp only [tripG, carry]
  sl_unfold [k0_t1_body]
  dsimp only
  sl_exec
  sl_step
  rw [xhomes_next c XA k.val hk3, Ring.roleAt_of_lt _ _ (k.val + 1 + 2) (by omega), Ring.AtB21_next _ _ _ _ k.val h1 hk, Ring.AtB21_next _ _ _ _ k.val h1 hk,
    show Ring.sl 4 (k.val + 1 + 3) = Ring.sl 4 k.val from Ring.sl_succ_add 4 k.val 3 rfl]
  isplitr
  · ipureintro
    refine Prod.ext ?_ (Prod.ext ?_ (Prod.ext ?_ (Prod.ext ?_ (Prod.ext ?_ (Prod.ext ?_ ?_))))) <;> (clear * - h1 hk3; revert k; decide +kernel)
  isplitl [HG]; · iexact HG
  isplitl [HW]; · iexists _; iexact HW
  isplitl [HF0_src Hxr]
  · isplitl [HF0_src]; · iexact HF0_src
    iexact Hxr
  isplitl [HR1]; · iexact HR1
  isplitl [HR2]; · iexact HR2
  isplitl [HC3]; · iexists f3; iexact HC3
  isplitl [HF0_dst HF0]
  · isplitl [HF0_dst]; · iexists _; iexact HF0_dst
    iexact HF0
  isplitl [HIA HIbeh HIF_dst HIF_src HIF HIC]
  · isplitl [HIA]; · iexact HIA
    isplitl [HIF_dst HIbeh]
    · isplitl [HIF_dst]
      · iexists _
        isplitl [HIF_dst]; · iexact HIF_dst
        ipureintro
        exact (View.read_writes_whole _ _ _).trans hgi
      iexact HIbeh
    isplitl [HIF_src HIF]
    · isplitl [HIF_src]; · iexists _; iexact HIF_src
      iexact HIF
    iexists _, _
    isplitl [HIC]; · iexact HIC
    ipureintro
    unfold trip_mid.sl.HIS_w1 trip_mid.sl.v177_r0
    rw [istored c _ _ (off16_at k), xload c XA _ _ _ (off15_at k)]
    rfl
  isplitl [HPA]; · iexact HPA
  isplitl [HPF_dst HPbeh]
  · isplitl [HPF_dst]
    · iexists _
      isplitl [HPF_dst]; · iexact HPF_dst
      ipureintro
      exact (View.read_writes_whole _ _ _).trans hgp
    iexact HPbeh
  isplitl [HPF_src HPF]
  · isplitl [HPF_src]; · iexists _; iexact HPF_src
    iexact HPF
  iexists _, _
  isplitl [HPC]; · iexact HPC
  ipureintro
  unfold trip_mid.sl.HPS_w2 trip_mid.sl.v177_r0
  rw [pstored c _ _ (off17_at k), xload c XA _ _ _ (off15_at k)]
  rfl

set_option backward.proofsInPublic true in
theorem trip_first (k : Fin k0_t1_loop.trips) (h0 : k.val = 0) (hk3 : k.val + 3 < 32) :
    before c XA g k.val ⊢ wp frame (wpE (defs₀ (F := F)) 𝒱₀ (c : Thread nD τ) none) Set.univ
      (tripG (F := F) arg1 harg1 w k (carry k.val))
      (fun r => iprop(⌜r = carry (k.val + 1)⌝ ∗ before c XA g (k.val + 1))) := by
  have hk : k.val < 32 := lt_of_lt_of_eq k.isLt trips_eq
  have hc3 := cond3_yes k hk3
  have hc4 := cond4_yes k
  have hc8 := cond8_yes k
  have hc9 := cond9_yes k
  have hc11 := cond11_no k (by omega)
  have hc12 := cond12_no k (by omega)
  have hw1 := chk1_at k
  have hw2 := chk2_at k
  have hw3 := chk3_at k
  have hw4 := chk4_at k
  unfold before
  rw [xhomes_here c XA k.val hk3]
  unfold xrole iring pring
  rw [Ring.roleAt_of_lt _ _ k.val hk, Ring.AtB2_zero' (hk := h0), Ring.AtB2_zero' (hk := h0)]
  iintro ⟨HG, ⟨%W, HW⟩, ⟨Hxn, Hxr⟩, ⟨%f0, HF0⟩, HR1, HR2, ⟨⟨%f3, HS3⟩, HC3⟩, ⟨⟨⟨%fi, HIB⟩, HIA⟩, ⟨⟨%fis, HIS⟩, HIC⟩, HI2⟩,
    ⟨⟨⟨%fp, HPB⟩, HPA⟩, ⟨⟨%fps, HPS⟩, HPC⟩, HP2⟩⟩
  dsimp only [tripG, carry]
  sl_unfold [k0_t1_body]
  dsimp only
  sl_exec
  sl_step
  rw [xhomes_next c XA k.val hk3, Ring.roleAt_of_lt _ _ (k.val + 1 + 2) (by omega), Ring.AtB21_next_zero' (hk := h0), Ring.AtB21_next_zero' (hk := h0),
    show Ring.sl 4 (k.val + 1 + 3) = Ring.sl 4 k.val from Ring.sl_succ_add 4 k.val 3 rfl]
  isplitr
  · ipureintro
    refine Prod.ext ?_ (Prod.ext ?_ (Prod.ext ?_ (Prod.ext ?_ (Prod.ext ?_ (Prod.ext ?_ ?_))))) <;> (clear * - h0 hk3; revert k; decide +kernel)
  isplitl [HG]; · iexact HG
  isplitl [HW]; · iexists _; iexact HW
  isplitl [HF0_src Hxr]
  · isplitl [HF0_src]; · iexact HF0_src
    iexact Hxr
  isplitl [HR1]; · iexact HR1
  isplitl [HR2]; · iexact HR2
  isplitl [HC3]; · iexists f3; iexact HC3
  isplitl [HF0_dst HF0]
  · isplitl [HF0_dst]; · iexists _; iexact HF0_dst
    iexact HF0
  isplitl [HIA HI2 HIC]
  · isplitl [HIA]; · iexact HIA
    isplitl [HI2]; · iexact HI2
    iexists _, _
    isplitl [HIC]; · iexact HIC
    ipureintro
    unfold trip_first.sl.HIS_w1 trip_first.sl.v177_r0
    rw [istored c _ _ (off16_at k), xload c XA _ _ _ (off15_at k)]
    rfl
  isplitl [HPA]; · iexact HPA
  isplitl [HP2]; · iexact HP2
  iexists _, _
  isplitl [HPC]; · iexact HPC
  ipureintro
  unfold trip_first.sl.HPS_w2 trip_first.sl.v177_r0
  rw [pstored c _ _ (off17_at k), xload c XA _ _ _ (off15_at k)]
  rfl

set_option backward.proofsInPublic true in
theorem trip_late (k : Fin k0_t1_loop.trips) (h1 : 1 ≤ k.val) (hk3 : ¬ k.val + 3 < 32) :
    before c XA g k.val ⊢ wp frame (wpE (defs₀ (F := F)) 𝒱₀ (c : Thread nD τ) none) Set.univ
      (tripG (F := F) arg1 harg1 w k (carry k.val))
      (fun r => iprop(⌜r = carry (k.val + 1)⌝ ∗ before c XA g (k.val + 1))) := by
  have hk : k.val < 32 := lt_of_lt_of_eq k.isLt trips_eq
  have hc3 := cond3_no k (by omega)
  have hc4 := cond4_yes k
  have hc8 := cond8_yes k
  have hc9 := cond9_yes k
  have hc11 := cond11_yes k h1
  have hc12 := cond12_yes k h1
  have hw1 := chk1_at k
  have hw2 := chk2_at k
  have hw3 := chk3_at k
  have hw4 := chk4_at k
  unfold before
  unfold xrole iring pring
  rw [Ring.roleAt_of_lt _ _ k.val hk, Ring.AtB21_here _ _ _ _ k.val h1 hk, Ring.AtB21_here _ _ _ _ k.val h1 hk]
  iintro ⟨HG, ⟨%W, HW⟩, Hxr, ⟨%f0, HF0⟩, HR1, HR2, HS3, ⟨⟨⟨%fi, HIB⟩, HIA⟩, HIbeh, ⟨⟨%fis, HIS⟩, HIC⟩, ⟨%gi, %gis, HIF, %hgi⟩⟩,
    ⟨⟨⟨%fp, HPB⟩, HPA⟩, HPbeh, ⟨⟨%fps, HPS⟩, HPC⟩, ⟨%gp, %gps, HPF, %hgp⟩⟩⟩
  dsimp only [tripG, carry]
  sl_unfold [k0_t1_body]
  dsimp only
  sl_exec
  sl_step
  rw [xhomes_last c XA k.val (by omega) hk, Ring.roleAt_of_le _ _ (k.val + 1 + 2) (by omega), Ring.AtB21_next _ _ _ _ k.val h1 hk, Ring.AtB21_next _ _ _ _ k.val h1 hk,
    show Ring.sl 4 (k.val + 1 + 3) = Ring.sl 4 k.val from Ring.sl_succ_add 4 k.val 3 rfl]
  isplitr
  · ipureintro
    refine Prod.ext ?_ (Prod.ext ?_ (Prod.ext ?_ (Prod.ext ?_ (Prod.ext ?_ (Prod.ext ?_ ?_))))) <;> (clear * - h1 hk3; revert k; decide +kernel)
  isplitl [HG]; · iexact HG
  isplitl [HW]; · iexists _; iexact HW
  isplitl [HF0_src Hxr]
  · isplitl [HF0_src]; · iexact HF0_src
    iexact Hxr
  isplitl [HR1]; · iexact HR1
  isplitl [HR2]; · iexact HR2
  isplitl [HS3]; · iexact HS3
  isplitl [HF0_dst HF0]
  · isplitl [HF0_dst]; · iexists _; iexact HF0_dst
    iexact HF0
  isplitl [HIA HIbeh HIF_dst HIF_src HIF HIC]
  · isplitl [HIA]; · iexact HIA
    isplitl [HIF_dst HIbeh]
    · isplitl [HIF_dst]
      · iexists _
        isplitl [HIF_dst]; · iexact HIF_dst
        ipureintro
        exact (View.read_writes_whole _ _ _).trans hgi
      iexact HIbeh
    isplitl [HIF_src HIF]
    · isplitl [HIF_src]; · iexists _; iexact HIF_src
      iexact HIF
    iexists _, _
    isplitl [HIC]; · iexact HIC
    ipureintro
    unfold trip_late.sl.HIS_w1 trip_late.sl.v177_r0
    rw [istored c _ _ (off16_at k), xload c XA _ _ _ (off15_at k)]
    rfl
  isplitl [HPA]; · iexact HPA
  isplitl [HPF_dst HPbeh]
  · isplitl [HPF_dst]
    · iexists _
      isplitl [HPF_dst]; · iexact HPF_dst
      ipureintro
      exact (View.read_writes_whole _ _ _).trans hgp
    iexact HPbeh
  isplitl [HPF_src HPF]
  · isplitl [HPF_src]; · iexists _; iexact HPF_src
    iexact HPF
  iexists _, _
  isplitl [HPC]; · iexact HPC
  ipureintro
  unfold trip_late.sl.HPS_w2 trip_late.sl.v177_r0
  rw [pstored c _ _ (off17_at k), xload c XA _ _ _ (off15_at k)]
  rfl

end Trip

end Cert.Proof.KI

end
-- ==== Proof.IdealBody.lean ====
/-
  The body of the call: the signs stored, three blocks asked for, the loop, the last results waited for.
-/
module

public import proofs.«01_k».proof.Proof.IdealTrip

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Loop
variable (c : Dev nD) (XA : Buf (Elt F) (xM.view.loc (c : Thread nD τ))) (g : Buf (Elt F) (gM.view.loc (c : Thread nD τ)))
variable (arg1 : Memref sig .tc .vmem S4096x64 .f32) (harg1 : arg1.IsWhole) (w : BitVec 32)

/-- One trip, whichever it is. -/
theorem trip_any (k : Fin k0_t1_loop.trips) :
    before c XA g k.val ⊢ wp frame (wpE (defs₀ (F := F)) 𝒱₀ (c : Thread nD τ) none) Set.univ
      (tripG (F := F) arg1 harg1 w k (carry k.val))
      (fun r => iprop(⌜r = carry (k.val + 1)⌝ ∗ before c XA g (k.val + 1))) := by
  by_cases h1 : 1 ≤ k.val
  · by_cases h3 : k.val + 3 < 32
    · exact trip_mid c XA g arg1 harg1 w k h1 h3
    · exact trip_late c XA g arg1 harg1 w k h1 h3
  · exact trip_first c XA g arg1 harg1 w k (by omega) (by omega)

/-- The loop, from what the core holds when it starts to what it holds when it ends. -/
theorem loop_run (Q) :
    iprop(before c XA g 0 ∗ (before c XA g k0_t1_loop.trips -∗ Q (carry 32)))
      ⊢ wp frame (wpE (defs₀ (F := F)) 𝒱₀ (c : Thread nD τ) none) Set.univ
        (k0_t1_loop.for k0_t1_ok (3#32, 0#32, 0#32, 0#32, 0#32, 0#32, 0#32) (tripG (F := F) arg1 harg1 w)) Q := by
  refine .trans ?_ (Scf.wp_for frame (wpE (defs₀ (F := F)) 𝒱₀ (c : Thread nD τ) none) Set.univ k0_t1_loop.lb k0_t1_loop.ub k0_t1_loop.st k0_t1_ok
    (3#32, 0#32, 0#32, 0#32, 0#32, 0#32, 0#32) (tripG (F := F) arg1 harg1 w) (fun k acc => iprop(⌜acc = carry k⌝ ∗ before c XA g k))
    (fun k acc => by
      iintro ⟨%ha, H⟩
      subst ha
      iapply (trip_any c XA g arg1 harg1 w k)
      iexact H))
  iintro ⟨H, HQ⟩
  isplitl [H]
  · isplitr; · ipureintro; rfl
    iexact H
  iintro %acc ⟨%ha, H⟩
  subst ha
  rw [show Scf.trips k0_t1_loop.lb k0_t1_loop.ub k0_t1_loop.st = 32 from trips_eq, show k0_t1_loop.trips = 32 from trips_eq]
  iapply HQ; iexact H

theorem sl4_0 : Ring.sl 4 0 = 0 := Fin.ext (by rfl)
theorem sl4_1 : Ring.sl 4 (0 + 1) = 1 := Fin.ext (by rfl)
theorem sl4_2 : Ring.sl 4 (0 + 2) = 2 := Fin.ext (by rfl)
theorem sl4_3 : Ring.sl 4 (0 + 3) = 3 := Fin.ext (by rfl)
theorem bk32_0 : Ring.bk 32 0 = 0 := Fin.ext (by rfl)
theorem bk32_1 : Ring.bk 32 (0 + 1) = 1 := Fin.ext (by rfl)
theorem bk32_2 : Ring.bk 32 (0 + 2) = 2 := Fin.ext (by rfl)

/-- What the core holds when the loop starts. -/
theorem before_start :
    iprop(gP c g ∗ (∃ W, owes (c : Thread nD τ) 0 W) ∗ bigSep (Ring.homeSet 3 0) (xhome c XA) ∗ xinfl c XA 0 0 ∗ xinfl c XA 1 1 ∗ xinfl c XA 2 2 ∗ xfree c 3
      ∗ (bigSep Finset.univ (iahead c) ∗ bigSep Finset.univ (ifree c)) ∗ (bigSep Finset.univ (pahead c) ∗ bigSep Finset.univ (pfree c)))
      ⊢ before c XA g 0 := by
  unfold before xrole iring pring
  rw [Ring.AtB_zero, Ring.AtB_zero, Ring.roleAt_of_lt _ _ 0 (by decide), Ring.roleAt_of_lt _ _ (0 + 1) (by decide), Ring.roleAt_of_lt _ _ (0 + 2) (by decide)]
  rw [sl4_0, sl4_1, sl4_2, sl4_3, bk32_0, bk32_1, bk32_2]
  exact .rfl

theorem sl4_32 : Ring.sl 4 32 = 0 := Fin.ext (by rfl)
theorem sl4_33 : Ring.sl 4 (32 + 1) = 1 := Fin.ext (by rfl)
theorem sl4_34 : Ring.sl 4 (32 + 2) = 2 := Fin.ext (by rfl)
theorem sl4_35 : Ring.sl 4 (32 + 3) = 3 := Fin.ext (by rfl)
theorem sl2_32 : Ring.sl 2 32 = 0 := Fin.ext (by rfl)
theorem sl2_33 : Ring.sl 2 (32 + 1) = 1 := Fin.ext (by rfl)
theorem bk32_31 : Ring.bk 32 (32 - 1) = 31 := Fin.ext (by rfl)

/-- What the core holds when the loop ends: the last results still on their way out. -/
theorem before_end :
    before c XA g k0_t1_loop.trips ⊢ iprop(gP c g ∗ (∃ W, owes (c : Thread nD τ) 0 W) ∗ bigSep Finset.univ (xhome c XA) ∗ (xfree c 0 ∗ xfree c 1 ∗ xfree c 2 ∗ xfree c 3)
      ∗ (bigSep (Ring.behindSet 1 32) (ibehind c (ival c XA g)) ∗ ifree c 0 ∗ iinfl c (ival c XA g) 1 31)
      ∗ (bigSep (Ring.behindSet 1 32) (pbehind c (pval c XA g)) ∗ pfree c 0 ∗ pinfl c (pval c XA g) 1 31)) := by
  rw [trips_eq]
  unfold before xrole iring pring
  rw [Ring.AtB21_end' _ _ _ _ 32 rfl (by decide), Ring.AtB21_end' _ _ _ _ 32 rfl (by decide), Ring.roleAt_of_le _ _ 32 (by decide), Ring.roleAt_of_le _ _ (32 + 1) (by decide),
    Ring.roleAt_of_le _ _ (32 + 2) (by decide), Ring.homeSet_last (NB := 32) 3 32 (by decide)]
  rw [sl4_32, sl4_33, sl4_34, sl4_35, sl2_32, sl2_33, bk32_31]
  iintro ⟨HG, HW, Hx, H0, H1, H2, H3, HI, HP⟩
  isplitl [HG]; · iexact HG
  isplitl [HW]; · iexact HW
  isplitl [Hx]; · iexact Hx
  isplitl [H0 H1 H2 H3]
  · isplitl [H0]; · iexact H0
    isplitl [H1]; · iexact H1
    isplitl [H2]; · iexact H2
    iexact H3
  isplitl [HI]; · iexact HI
  iexact HP

/-- The last results home: every block of results behind, both slots free. -/
theorem idone (iv : Fin 32 → S512x1.Idx → Elt F .i32) :
    iprop(ibehind c iv 31 ∗ bigSep (Ring.behindSet 1 32) (ibehind c iv) ∗ ifree c 0 ∗ ifree c 1)
      ⊢ iprop(bigSep Finset.univ (ibehind c iv) ∗ bigSep Finset.univ (ifree c)) := by
  have e := Ring.AtB21_epilogue' (ifree c) (ibehind c iv) 32 rfl (by decide)
  rw [sl2_32, sl2_33, bk32_31] at e
  refine .trans ?_ (by rw [show iprop(bigSep Finset.univ (ibehind c iv) ∗ bigSep Finset.univ (ifree c)) = _ from e])
  iintro ⟨H1, H2, H3, H4⟩
  isplitl [H1 H2]
  · isplitl [H1]; · iexact H1
    iexact H2
  isplitl [H3]; · iexact H3
  iexact H4
theorem pdone (pv : Fin 32 → S512x64.Idx → Elt F .f32) :
    iprop(pbehind c pv 31 ∗ bigSep (Ring.behindSet 1 32) (pbehind c pv) ∗ pfree c 0 ∗ pfree c 1)
      ⊢ iprop(bigSep Finset.univ (pbehind c pv) ∗ bigSep Finset.univ (pfree c)) := by
  have e := Ring.AtB21_epilogue' (pfree c) (pbehind c pv) 32 rfl (by decide)
  rw [sl2_32, sl2_33, bk32_31] at e
  refine .trans ?_ (by rw [show iprop(bigSep Finset.univ (pbehind c pv) ∗ bigSep Finset.univ (pfree c)) = _ from e])
  iintro ⟨H1, H2, H3, H4⟩
  isplitl [H1 H2]
  · isplitl [H1]; · iexact H1
    iexact H2
  isplitl [H3]; · iexact H3
  iexact H4

end Loop

section Body
variable (c : Dev nD) (XA : Buf (Elt F) (xM.view.loc (c : Thread nD τ)))
variable (arg1 : Memref sig .tc .vmem S4096x64 .f32) (harg1 : arg1.IsWhole)

/-- The body on a staging memref of the router. -/
abbrev bodyG : Prog (TpuEff nD τ sig (Elt F) Λ₀ .tc) PUnit :=
  cc0__outer xM (Memref.isWhole_whole _) arg1 harg1 iM (Memref.isWhole_whole _) pM (Memref.isWhole_whole _) gM (Memref.isWhole_whole _)
    xR (Memref.isWhole_whole _) cc0_scoped1 iR (Memref.isWhole_whole _) cc0_scoped3 pR (Memref.isWhole_whole _) cc0_scoped5

/-- The signs the body stores: those of what it loads from the staging memref. -/
def signs (w0 : Buf (Elt F) (arg1.view.loc (c : Thread nD τ))) : Vec F S4096x64 .bf16 :=
  k0_pay5 (arg1.view.readAt (Elt F) (Rect.unit (s := S4096x64) ![0, 0] S4096x64.size inb_S4096x64_S4096x64_0_0).toLoadRect w0)

/-- The signs stored and loaded back. -/
theorem gstored (w0 : Buf (Elt F) (arg1.view.loc (c : Thread nD τ))) (f : Buf (Elt F) (gM.view.loc (c : Thread nD τ))) :
    gval c (gM.view.writes (Elt F) f [⟨Rect.unit (s := S4096x64) ![0, 0] S4096x64.size inb_S4096x64_S4096x64_0_0, signs c arg1 w0⟩]) = signs c arg1 w0 := by
  unfold gval
  funext y
  exact View.read_writes_cons_emb gM.view f (Rect.unit (s := S4096x64) ![0, 0] S4096x64.size inb_S4096x64_S4096x64_0_0) (signs c arg1 w0) [] y

abbrev wP (w0 : Buf (Elt F) (arg1.view.loc (c : Thread nD τ))) : sProp 𝕄 := arg1.view.loc (c : Thread nD τ) ↦[arg1.view.set]{fullShare} w0

/-- What the body is handed. -/
abbrev PRE (w0 : Buf (Elt F) (arg1.view.loc (c : Thread nD τ))) (g0 : Buf (Elt F) (gM.view.loc (c : Thread nD τ))) (W : Waits sig Unit) : sProp 𝕄 :=
  iprop(wP c arg1 w0 ∗ gP c g0 ∗ owes (c : Thread nD τ) 0 W ∗ (xhome c XA 0 ∗ xhome c XA 1 ∗ xhome c XA 2 ∗ bigSep (Ring.homeSet 3 0) (xhome c XA))
    ∗ (xfree c 0 ∗ xfree c 1 ∗ xfree c 2 ∗ xfree c 3)
    ∗ (bigSep Finset.univ (iahead c) ∗ bigSep Finset.univ (ifree c))
    ∗ (bigSep Finset.univ (pahead c) ∗ bigSep Finset.univ (pfree c)))

/-- What it hands back: the signs in their scratch buffer, every block of tokens home, every block of results at what its
    trip computed, every slot free. -/
abbrev POST (w0 : Buf (Elt F) (arg1.view.loc (c : Thread nD τ))) : sProp 𝕄 :=
  iprop(wP c arg1 w0 ∗ (∃ W, owes (c : Thread nD τ) 0 W) ∗ bigSep Finset.univ (xhome c XA)
    ∗ (xfree c 0 ∗ xfree c 1 ∗ xfree c 2 ∗ xfree c 3)
    ∗ ∃ g : Buf (Elt F) (gM.view.loc (c : Thread nD τ)), gP c g ∗ ⌜gval c g = signs c arg1 w0⌝
    ∗ (bigSep Finset.univ (ibehind c (ival c XA g)) ∗ bigSep Finset.univ (ifree c))
    ∗ (bigSep Finset.univ (pbehind c (pval c XA g)) ∗ bigSep Finset.univ (pfree c)))

theorem bodyRun (w0 g0 W) (Q : PUnit → sProp 𝕄) :
    iprop(PRE c XA arg1 w0 g0 W ∗ (POST c XA arg1 w0 -∗ Q ⟨⟩))
      ⊢ wp frame (wpE (defs₀ (F := F)) 𝒱₀ (c : Thread nD τ) none) Set.univ (bodyG arg1 harg1) Q := by
  iintro ⟨⟨Hw, HG, HW, ⟨Hh0, Hh1, Hh2, Hh⟩, ⟨⟨⟨%f0, Hs0⟩, Hc0⟩, ⟨⟨%f1, Hs1⟩, Hc1⟩, ⟨⟨%f2, Hs2⟩, Hc2⟩, Hf3⟩, HI, HP⟩, Hk⟩
  sl_exec
  have hg := gstored c arg1 w0 gM.view.junk
  ihave HB := (before_start c XA (gM.view.writes (Elt F) gM.view.junk (bodyRun.sl.HG_1 c arg1 w0))) $$ [HG HW Hh Hc0 Hc1 Hc2 Hf3 HI HP]
  · isplitl [HG]; · iexact HG
    isplitl [HW]; · iexists W; iexact HW
    isplitl [Hh]; · iexact Hh
    isplitl [Hc0]; · iexists f0; iexact Hc0
    isplitl [Hc1]; · iexists f1; iexact Hc1
    isplitl [Hc2]; · iexists f2; iexact Hc2
    isplitl [Hf3]; · iexact Hf3
    isplitl [HI]; · iexact HI
    iexact HP
  have hk5 := chk5_at
  have hk6 := chk6_at
  have hk7 := chk7_at
  rw [wp_bind]
  iapply (loop_run c XA _ arg1 harg1 _)
  isplitl [HB]; · iexact HB
  iintro HE
  ihave HE2 := (before_end c XA _) $$ HE
  icases HE2 with ⟨HG, ⟨%W', HW⟩, Hx, Hf, ⟨HIb, HI0, ⟨%gi, %gis, HIF, %hgi⟩⟩, ⟨HPb, HP0, ⟨%gp, %gps, HPF, %hgp⟩⟩⟩
  dsimp only [carry]
  sl_exec
  sl_step
  ihave HI := (idone c (ival c XA (gM.view.writes (Elt F) gM.view.junk (bodyRun.sl.HG_1 c arg1 w0)))) $$ [HIb HI0 HIF_dst HIF_src HIF]
  · isplitl [HIF_dst]
    · iexists _
      isplitl [HIF_dst]; · iexact HIF_dst
      ipureintro
      exact (View.read_writes_whole _ _ _).trans hgi
    isplitl [HIb]; · iexact HIb
    isplitl [HI0]; · iexact HI0
    isplitl [HIF_src]; · iexists _; iexact HIF_src
    iexact HIF
  ihave HP := (pdone c (pval c XA (gM.view.writes (Elt F) gM.view.junk (bodyRun.sl.HG_1 c arg1 w0)))) $$ [HPb HP0 HPF_dst HPF_src HPF]
  · isplitl [HPF_dst]
    · iexists _
      isplitl [HPF_dst]; · iexact HPF_dst
      ipureintro
      exact (View.read_writes_whole _ _ _).trans hgp
    isplitl [HPb]; · iexact HPb
    isplitl [HP0]; · iexact HP0
    isplitl [HPF_src]; · iexists _; iexact HPF_src
    iexact HPF
  iapply Hk
  isplitl [Hw]; · iexact Hw
  isplitl [HW]; · iexists _; iexact HW
  isplitl [Hx]; · iexact Hx
  isplitl [Hf]; · iexact Hf
  iexists (gM.view.writes (Elt F) gM.view.junk (bodyRun.sl.HG_1 c arg1 w0))
  isplitl [HG]; · iexact HG
  isplitr
  · ipureintro; exact hg
  isplitl [HI]; · iexact HI
  iexact HP

end Body

end Cert.Proof.KI

end
-- ==== Proof.WordFrame.lean ====
/-
  What @main leaves: the arguments as launched, the two results as the blocks computed them.
-/
module

public import proofs.«01_k».proof.Proof.WordLaunch

@[expose] public section

noncomputable section

namespace Cert.Proof.KB

open Cert.Kernel Cert.Kernel.Gen
open Idealize.ShloMosaic Idealize.ShloMosaic.TcCoe Idealize.ShloMosaic.Tactic
open Idealize.SL Idealize.SL.Sem

variable {F : FTy → Type} [BitOps F]
variable (m : (ℓ : Loc nD τ sig) → Buf (Elt F) ℓ) (ρ : Dev nD → PrngReg)

theorem fin_arg0 (c : Dev nD) : fin m c main_arg0 = m ((c : Thread nD τ).loc main_arg0) := by
  unfold fin
  simp only [hostOps1, List.flatten_cons, List.flatten_nil, List.append_nil, StableHlo.after_cons, StableHlo.after_nil]
  rw [StableHlo.reshape_result_ne _ _ _ _ _ _ _ (by decide), StableHlo.reshape_result_ne _ _ _ _ _ _ _ (by decide),
    Pipeline.withArrays_of_ne _ c _ _ main_arg0 (by exact (by decide : ∀ w, Pipeline.arrRef spec0 w ≠ main_arg0)),
    Pipeline.withR_of_not_mem _ _ _ _ _ (by decide)]
  exact V_main_arg0 m c
theorem fin_arg1 (c : Dev nD) : fin m c main_arg1 = m ((c : Thread nD τ).loc main_arg1) := by
  unfold fin
  simp only [hostOps1, List.flatten_cons, List.flatten_nil, List.append_nil, StableHlo.after_cons, StableHlo.after_nil]
  rw [StableHlo.reshape_result_ne _ _ _ _ _ _ _ (by decide), StableHlo.reshape_result_ne _ _ _ _ _ _ _ (by decide),
    Pipeline.withArrays_of_ne _ c _ _ main_arg1 (by exact (by decide : ∀ w, Pipeline.arrRef spec0 w ≠ main_arg1)),
    Pipeline.withR_of_not_mem _ _ _ _ _ (by decide)]
  exact V_main_arg1 m c

theorem fin_v3 (c : Dev nD) : fin m c main_v3 = shapeCast S4x4096 (wholeI (idxOf m c)) shapeCasts_S16384x1_S4x4096 := by
  unfold fin
  simp only [hostOps1, List.flatten_cons, List.flatten_nil, List.append_nil, StableHlo.after_cons, StableHlo.after_nil]
  rw [StableHlo.reshape_result_ne _ _ _ _ _ _ _ (by decide), StableHlo.reshape_result,
    Pipeline.withArrays_of_ne _ c _ _ main_v2_0 (by exact (by decide : ∀ w, Pipeline.arrRef spec0 w ≠ main_v2_0)),
    Pipeline.withR_of_mem _ _ _ _ _ (by decide), G_i]
  rfl
theorem fin_v4 (c : Dev nD) : fin m c main_v4 = shapeCast S4x4096x64 (wholeP (probOf m c)) shapeCasts_S16384x64_S4x4096x64 := by
  unfold fin
  simp only [hostOps1, List.flatten_cons, List.flatten_nil, List.append_nil, StableHlo.after_cons, StableHlo.after_nil]
  rw [StableHlo.reshape_result, StableHlo.reshape_result_ne _ _ _ _ _ _ _ (by decide),
    Pipeline.withArrays_of_ne _ c _ _ main_v2_1 (by exact (by decide : ∀ w, Pipeline.arrRef spec0 w ≠ main_v2_1)),
    Pipeline.withR_of_mem _ _ _ _ _ (by decide), G_p]
  rfl

/-- Every run ends with the arguments as launched, the results as computed and every counter at zero. -/
theorem run_values : θ_run defs (onTc (τ := τ) (main (F := F))) ⟨m, fun _ => 0, ρ⟩ (fun r => (∀ c : Dev nD,
    r.2.mem ((c : Thread nD τ).loc main_v3) = shapeCast S4x4096 (wholeI (idxOf m c)) shapeCasts_S16384x1_S4x4096
    ∧ r.2.mem ((c : Thread nD τ).loc main_v4) = shapeCast S4x4096x64 (wholeP (probOf m c)) shapeCasts_S16384x64_S4x4096x64
    ∧ r.2.mem ((c : Thread nD τ).loc main_arg0) = m ((c : Thread nD τ).loc main_arg0)
    ∧ r.2.mem ((c : Thread nD τ).loc main_arg1) = m ((c : Thread nD τ).loc main_arg1)) ∧ r.2.sem = fun _ => 0) :=
  (θ_run defs _ _).mono (fun r h => ⟨fun c =>
    ⟨(h.1 c main_v3 (Pipeline.mem_restRefs_of main_v3 (by decide) (by decide))).trans (fin_v3 m c),
     (h.1 c main_v4 (Pipeline.mem_restRefs_of main_v4 (by decide) (by decide))).trans (fin_v4 m c),
     (h.1 c main_arg0 (Pipeline.mem_restRefs_of main_arg0 (by decide) (by decide))).trans (fin_arg0 m c),
     (h.1 c main_arg1 (Pipeline.mem_restRefs_of main_arg1 (by decide) (by decide))).trans (fin_arg1 m c)⟩, h.2⟩) (run m ρ)

/-- The frame. -/
theorem run_frame : θ_run defs (onTc (τ := τ) (main (F := F))) ⟨m, fun _ => 0, ρ⟩ (fun r => (∀ c : Dev nD,
    r.2.mem ((c : Thread nD τ).loc main_arg0) = m ((c : Thread nD τ).loc main_arg0)
    ∧ r.2.mem ((c : Thread nD τ).loc main_arg1) = m ((c : Thread nD τ).loc main_arg1)) ∧ r.2.sem = fun _ => 0) :=
  (θ_run defs _ _).mono (fun r h => ⟨fun c => (h.1 c).2.2, h.2⟩) (run_values m ρ)

end Cert.Proof.KB

end
-- ==== Proof.IdealBlocks.lean ====
/-
  The buffers of the call cut into the pieces its copies move: the tokens and the two results into 32 blocks of 512 rows,
  the three rings into their slots.
-/
module

public import proofs.«01_k».proof.Proof.IdealBody

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## Element sets -/

abbrev XB (b : Fin 32) : Finset S16384x4096.Idx := (Rect.unit (s := S16384x4096) (rowOff b) S512x4096.size (xblk_in b)).set
abbrev IB (b : Fin 32) : Finset S16384x1.Idx := (Rect.unit (s := S16384x1) (rowOff b) S512x1.size (iblk_in b)).set
abbrev PB (b : Fin 32) : Finset S16384x64.Idx := (Rect.unit (s := S16384x64) (rowOff b) S512x64.size (pblk_in b)).set
abbrev XS (s : Fin 4) : Finset S4x512x4096.Idx := (Rect.unit (s := S4x512x4096) (slot4Off s) S1x512x4096.size (xslot_in s)).set
abbrev IS (s : Fin 2) : Finset S2x512x1.Idx := (Rect.unit (s := S2x512x1) (slot2Off s) S1x512x1.size (islot_in s)).set
abbrev PS (s : Fin 2) : Finset S2x512x64.Idx := (Rect.unit (s := S2x512x64) (slot2Off s) S1x512x64.size (pslot_in s)).set

theorem xblk_set (b : Fin 32) : (xblk b).view.set = XB b := View.set_slice_whole _ _
theorem iblk_set (b : Fin 32) : (iblkM b).view.set = IB b := View.set_slice_whole _ _
theorem pblk_set (b : Fin 32) : (pblk b).view.set = PB b := View.set_slice_whole _ _
theorem xslot_set (s : Fin 4) : (xslot s).view.set = XS s := (View.set_reshape _ _).trans (View.set_slice_whole _ _)
theorem islot_set (s : Fin 2) : (islot s).view.set = IS s := (View.set_reshape _ _).trans (View.set_slice_whole _ _)
theorem pslot_set (s : Fin 2) : (pslot s).view.set = PS s := (View.set_reshape _ _).trans (View.set_slice_whole _ _)

theorem mem_XB (b : Fin 32) (y : S16384x4096.Idx) : y ∈ XB b ↔ 512 * b.val ≤ (y 0).val ∧ (y 0).val < 512 * b.val + 512 := by
  rw [Rect.mem_set_unit]
  have h1 : (y 1).val < 4096 := (y 1).isLt
  constructor
  · intro H; exact H 0
  · intro H i; fin_cases i
    · exact H
    · show 0 ≤ (y 1).val ∧ (y 1).val < 0 + 4096; omega
theorem mem_IB (b : Fin 32) (y : S16384x1.Idx) : y ∈ IB b ↔ 512 * b.val ≤ (y 0).val ∧ (y 0).val < 512 * b.val + 512 := by
  rw [Rect.mem_set_unit]
  have h1 : (y 1).val < 1 := (y 1).isLt
  constructor
  · intro H; exact H 0
  · intro H i; fin_cases i
    · exact H
    · show 0 ≤ (y 1).val ∧ (y 1).val < 0 + 1; omega
theorem mem_PB (b : Fin 32) (y : S16384x64.Idx) : y ∈ PB b ↔ 512 * b.val ≤ (y 0).val ∧ (y 0).val < 512 * b.val + 512 := by
  rw [Rect.mem_set_unit]
  have h1 : (y 1).val < 64 := (y 1).isLt
  constructor
  · intro H; exact H 0
  · intro H i; fin_cases i
    · exact H
    · show 0 ≤ (y 1).val ∧ (y 1).val < 0 + 64; omega
theorem mem_XS (s : Fin 4) (y : S4x512x4096.Idx) : y ∈ XS s ↔ (y 0).val = s.val := by
  rw [Rect.mem_set_unit]
  have h1 : (y 1).val < 512 := (y 1).isLt
  have h2 : (y 2).val < 4096 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 4096; omega
theorem mem_IS (s : Fin 2) (y : S2x512x1.Idx) : y ∈ IS s ↔ (y 0).val = s.val := by
  rw [Rect.mem_set_unit]
  have h1 : (y 1).val < 512 := (y 1).isLt
  have h2 : (y 2).val < 1 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 1; omega
theorem mem_PS (s : Fin 2) (y : S2x512x64.Idx) : y ∈ PS s ↔ (y 0).val = s.val := by
  rw [Rect.mem_set_unit]
  have h1 : (y 1).val < 512 := (y 1).isLt
  have h2 : (y 2).val < 64 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 64; omega

theorem XB_disjoint : ∀ b b' : Fin 32, b ≠ b' → Disjoint (XB b) (XB b') := by
  intro b b' hne; rw [Finset.disjoint_left]; intro y hy hy'; rw [mem_XB] at hy hy'; exact hne (Fin.ext (by omega))
theorem IB_disjoint : ∀ b b' : Fin 32, b ≠ b' → Disjoint (IB b) (IB b') := by
  intro b b' hne; rw [Finset.disjoint_left]; intro y hy hy'; rw [mem_IB] at hy hy'; exact hne (Fin.ext (by omega))
theorem PB_disjoint : ∀ b b' : Fin 32, b ≠ b' → Disjoint (PB b) (PB b') := by
  intro b b' hne; rw [Finset.disjoint_left]; intro y hy hy'; rw [mem_PB] at hy hy'; exact hne (Fin.ext (by omega))
theorem XS_disjoint : ∀ s s' : Fin 4, s ≠ s' → Disjoint (XS s) (XS s') := by
  intro b b' hne; rw [Finset.disjoint_left]; intro y hy hy'; rw [mem_XS] at hy hy'; exact hne (Fin.ext (hy.symm.trans hy'))
theorem IS_disjoint : ∀ s s' : Fin 2, s ≠ s' → Disjoint (IS s) (IS s') := by
  intro b b' hne; rw [Finset.disjoint_left]; intro y hy hy'; rw [mem_IS] at hy hy'; exact hne (Fin.ext (hy.symm.trans hy'))
theorem PS_disjoint : ∀ s s' : Fin 2, s ≠ s' → Disjoint (PS s) (PS s') := by
  intro b b' hne; rw [Finset.disjoint_left]; intro y hy hy'; rw [mem_PS] at hy hy'; exact hne (Fin.ext (hy.symm.trans hy'))

/-- The block row `r` lies in. -/
def rowBlk (r : Fin 16384) : Fin 32 := ⟨r.val / 512, by have := r.isLt; omega⟩
theorem rowBlk_le (r : Fin 16384) : 512 * (rowBlk r).val ≤ r.val ∧ r.val < 512 * (rowBlk r).val + 512 := by
  show 512 * (r.val / 512) ≤ r.val ∧ r.val < 512 * (r.val / 512) + 512; omega

theorem XB_cover : (Finset.univ : Finset (Fin 32)).biUnion XB = Finset.univ := by
  ext y; simp only [Finset.mem_biUnion, Finset.mem_univ, true_and, iff_true]
  exact ⟨rowBlk (y 0), (mem_XB _ _).2 (rowBlk_le (y 0))⟩
theorem IB_cover : (Finset.univ : Finset (Fin 32)).biUnion IB = Finset.univ := by
  ext y; simp only [Finset.mem_biUnion, Finset.mem_univ, true_and, iff_true]
  exact ⟨rowBlk (y 0), (mem_IB _ _).2 (rowBlk_le (y 0))⟩
theorem PB_cover : (Finset.univ : Finset (Fin 32)).biUnion PB = Finset.univ := by
  ext y; simp only [Finset.mem_biUnion, Finset.mem_univ, true_and, iff_true]
  exact ⟨rowBlk (y 0), (mem_PB _ _).2 (rowBlk_le (y 0))⟩
theorem XS_cover : (Finset.univ : Finset (Fin 4)).biUnion XS = Finset.univ := by
  ext y; simp only [Finset.mem_biUnion, Finset.mem_univ, true_and, iff_true]; exact ⟨y 0, (mem_XS _ _).2 rfl⟩
theorem IS_cover : (Finset.univ : Finset (Fin 2)).biUnion IS = Finset.univ := by
  ext y; simp only [Finset.mem_biUnion, Finset.mem_univ, true_and, iff_true]; exact ⟨y 0, (mem_IS _ _).2 rfl⟩
theorem PS_cover : (Finset.univ : Finset (Fin 2)).biUnion PS = Finset.univ := by
  ext y; simp only [Finset.mem_biUnion, Finset.mem_univ, true_and, iff_true]; exact ⟨y 0, (mem_PS _ _).2 rfl⟩

/-! ## Cutting and joining -/

theorem bigSep_fin2 (Φ : Fin 2 → sProp 𝕄) : bigSep Finset.univ Φ = iprop(Φ 0 ∗ Φ 1) :=
  bigSep_univ_eq_bigSepL [(0 : Fin 2), (1 : Fin 2)] (by decide) (by decide) Φ
theorem bigSep_fin4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

section Cut
variable (c : Dev nD)

theorem xhome_eq (XA : Buf (Elt F) (xM.view.loc (c : Thread nD τ))) (b : Fin 32) :
    xhome c XA b = (((c : Thread nD τ).loc main_v0) ↦[XB b]{fullShare} XA : sProp 𝕄) :=
  congrArg (fun S => (_ ↦[S]{fullShare} XA : sProp 𝕄)) (xblk_set b)
theorem iblkP_eq (b : Fin 32) (f) : iblkP c b f = (((c : Thread nD τ).loc main_v2_0) ↦[IB b]{fullShare} f : sProp 𝕄) :=
  congrArg (fun S => (_ ↦[S]{fullShare} f : sProp 𝕄)) (iblk_set b)
theorem pblkP_eq (b : Fin 32) (f) : pblkP c b f = (((c : Thread nD τ).loc main_v2_1) ↦[PB b]{fullShare} f : sProp 𝕄) :=
  congrArg (fun S => (_ ↦[S]{fullShare} f : sProp 𝕄)) (pblk_set b)
theorem xslotP_eq (s : Fin 4) (f) : xslotP c s f = (((c : Thread nD τ).loc cc0_scoped0) ↦[XS s]{fullShare} f : sProp 𝕄) :=
  congrArg (fun S => (_ ↦[S]{fullShare} f : sProp 𝕄)) (xslot_set s)
theorem islotP_eq (s : Fin 2) (f) : islotP c s f = (((c : Thread nD τ).loc cc0_scoped2) ↦[IS s]{fullShare} f : sProp 𝕄) :=
  congrArg (fun S => (_ ↦[S]{fullShare} f : sProp 𝕄)) (islot_set s)
theorem pslotP_eq (s : Fin 2) (f) : pslotP c s f = (((c : Thread nD τ).loc cc0_scoped4) ↦[PS s]{fullShare} f : sProp 𝕄) :=
  congrArg (fun S => (_ ↦[S]{fullShare} f : sProp 𝕄)) (pslot_set s)

/-- The tokens whole are their 32 blocks. -/
theorem x_eq (XA : Buf (Elt F) (xM.view.loc (c : Thread nD τ))) :
    (((c : Thread nD τ).loc main_v0) ↦{fullShare} XA : sProp 𝕄) = bigSep Finset.univ (xhome c XA) := by
  rw [Ring.pointsTo_blocks (ℓ := (c : Thread nD τ).loc main_v0) XB XB_disjoint XB_cover]
  exact bigSep_congr fun b _ => (xhome_eq c XA b).symm

/-- Before the first trip blocks 0, 1 and 2 stand apart from the rest. -/
theorem homes_zero (XA : Buf (Elt F) (xM.view.loc (c : Thread nD τ))) :
    bigSep Finset.univ (xhome c XA) = iprop(xhome c XA 0 ∗ xhome c XA 1 ∗ xhome c XA 2 ∗ bigSep (Ring.homeSet 3 0) (xhome c XA)) := by
  have e : (Finset.univ : Finset (Fin 32)) = insert 0 (insert 1 (insert 2 (Ring.homeSet (NB := 32) 3 0))) := by
    ext b; simp only [Finset.mem_univ, Finset.mem_insert, Ring.mem_homeSet, true_iff, Fin.ext_iff]; have := b.isLt
    show b.val = 0 ∨ b.val = 1 ∨ b.val = 2 ∨ _; omega
  rw [e, bigSep_insert (by simp [Ring.mem_homeSet, Fin.ext_iff]), bigSep_insert (by simp [Ring.mem_homeSet, Fin.ext_iff]),
    bigSep_insert (by simp [Ring.mem_homeSet])]
  rfl

theorem iahead_of (b : Fin 32) (f : Buf (Elt F) ((c : Thread nD τ).loc main_v2_0)) : (((c : Thread nD τ).loc main_v2_0) ↦[IB b]{fullShare} f : sProp 𝕄) ⊢ iahead c b := by
  have e : (((c : Thread nD τ).loc main_v2_0) ↦[IB b]{fullShare} f : sProp 𝕄) = iblkP c b f := (iblkP_eq c b f).symm
  rw [e]
  iintro H; iexists f; iexact H
theorem i_cut (f : Buf (Elt F) ((c : Thread nD τ).loc main_v2_0)) :
    (((c : Thread nD τ).loc main_v2_0) ↦{fullShare} f : sProp 𝕄) ⊢ bigSep Finset.univ (iahead c) := by
  rw [Ring.pointsTo_blocks (ℓ := ((c : Thread nD τ).loc main_v2_0)) IB IB_disjoint IB_cover]
  exact bigSep_mono fun b _ => iahead_of c b f

theorem pahead_of (b : Fin 32) (f : Buf (Elt F) ((c : Thread nD τ).loc main_v2_1)) : (((c : Thread nD τ).loc main_v2_1) ↦[PB b]{fullShare} f : sProp 𝕄) ⊢ pahead c b := by
  have e : (((c : Thread nD τ).loc main_v2_1) ↦[PB b]{fullShare} f : sProp 𝕄) = pblkP c b f := (pblkP_eq c b f).symm
  rw [e]
  iintro H; iexists f; iexact H
theorem p_cut (f : Buf (Elt F) ((c : Thread nD τ).loc main_v2_1)) :
    (((c : Thread nD τ).loc main_v2_1) ↦{fullShare} f : sProp 𝕄) ⊢ bigSep Finset.univ (pahead c) := by
  rw [Ring.pointsTo_blocks (ℓ := ((c : Thread nD τ).loc main_v2_1)) PB PB_disjoint PB_cover]
  exact bigSep_mono fun b _ => pahead_of c b f

theorem xr_pieces : (iprop((∃ f, xslotP c 0 f) ∗ (∃ f, xslotP c 1 f) ∗ (∃ f, xslotP c 2 f) ∗ (∃ f, xslotP c 3 f)) : sProp 𝕄)
      = bigSep Finset.univ (fun s : Fin 4 => iprop(∃ f : Buf (Elt F) ((c : Thread nD τ).loc cc0_scoped0), ((c : Thread nD τ).loc cc0_scoped0) ↦[XS s]{fullShare} f)) :=
  (bigSep_fin4 (fun s => iprop(∃ f, xslotP c s f))).symm.trans (bigSep_congr fun s _ =>
    congrArg (fun S => (iprop(∃ f : Buf (Elt F) ((c : Thread nD τ).loc cc0_scoped0), ((c : Thread nD τ).loc cc0_scoped0) ↦[S]{fullShare} f) : sProp 𝕄)) (xslot_set s))
theorem xr_cut : (iprop(∃ f : Buf (Elt F) ((c : Thread nD τ).loc cc0_scoped0), ((c : Thread nD τ).loc cc0_scoped0) ↦{fullShare} f) : sProp 𝕄)
      ⊢ iprop((∃ f, xslotP c 0 f) ∗ (∃ f, xslotP c 1 f) ∗ (∃ f, xslotP c 2 f) ∗ (∃ f, xslotP c 3 f)) :=
  (Ring.pieces_split (ℓ := ((c : Thread nD τ).loc cc0_scoped0)) XS XS_disjoint XS_cover (fun s f => (((c : Thread nD τ).loc cc0_scoped0) ↦[XS s]{fullShare} f : sProp 𝕄)) (fun _ _ => rfl)).trans
    (Entails.of_eq (xr_pieces c).symm)
theorem xr_join : (iprop((∃ f, xslotP c 0 f) ∗ (∃ f, xslotP c 1 f) ∗ (∃ f, xslotP c 2 f) ∗ (∃ f, xslotP c 3 f)) : sProp 𝕄)
      ⊢ iprop(∃ f : Buf (Elt F) ((c : Thread nD τ).loc cc0_scoped0), ((c : Thread nD τ).loc cc0_scoped0) ↦{fullShare} f) :=
  (Entails.of_eq (xr_pieces c)).trans
    (Ring.pieces_join (ℓ := ((c : Thread nD τ).loc cc0_scoped0)) XS XS_disjoint XS_cover (fun s f => (((c : Thread nD τ).loc cc0_scoped0) ↦[XS s]{fullShare} f : sProp 𝕄)) (fun _ _ => rfl) xR.view.junk)

theorem ir_pieces : (iprop((∃ f, islotP c 0 f) ∗ (∃ f, islotP c 1 f)) : sProp 𝕄)
      = bigSep Finset.univ (fun s : Fin 2 => iprop(∃ f : Buf (Elt F) ((c : Thread nD τ).loc cc0_scoped2), ((c : Thread nD τ).loc cc0_scoped2) ↦[IS s]{fullShare} f)) :=
  (bigSep_fin2 (fun s => iprop(∃ f, islotP c s f))).symm.trans (bigSep_congr fun s _ =>
    congrArg (fun S => (iprop(∃ f : Buf (Elt F) ((c : Thread nD τ).loc cc0_scoped2), ((c : Thread nD τ).loc cc0_scoped2) ↦[S]{fullShare} f) : sProp 𝕄)) (islot_set s))
theorem ir_cut : (iprop(∃ f : Buf (Elt F) ((c : Thread nD τ).loc cc0_scoped2), ((c : Thread nD τ).loc cc0_scoped2) ↦{fullShare} f) : sProp 𝕄)
      ⊢ iprop((∃ f, islotP c 0 f) ∗ (∃ f, islotP c 1 f)) :=
  (Ring.pieces_split (ℓ := ((c : Thread nD τ).loc cc0_scoped2)) IS IS_disjoint IS_cover (fun s f => (((c : Thread nD τ).loc cc0_scoped2) ↦[IS s]{fullShare} f : sProp 𝕄)) (fun _ _ => rfl)).trans
    (Entails.of_eq (ir_pieces c).symm)
theorem ir_join : (iprop((∃ f, islotP c 0 f) ∗ (∃ f, islotP c 1 f)) : sProp 𝕄)
      ⊢ iprop(∃ f : Buf (Elt F) ((c : Thread nD τ).loc cc0_scoped2), ((c : Thread nD τ).loc cc0_scoped2) ↦{fullShare} f) :=
  (Entails.of_eq (ir_pieces c)).trans
    (Ring.pieces_join (ℓ := ((c : Thread nD τ).loc cc0_scoped2)) IS IS_disjoint IS_cover (fun s f => (((c : Thread nD τ).loc cc0_scoped2) ↦[IS s]{fullShare} f : sProp 𝕄)) (fun _ _ => rfl) iR.view.junk)

theorem pr_pieces : (iprop((∃ f, pslotP c 0 f) ∗ (∃ f, pslotP c 1 f)) : sProp 𝕄)
      = bigSep Finset.univ (fun s : Fin 2 => iprop(∃ f : Buf (Elt F) ((c : Thread nD τ).loc cc0_scoped4), ((c : Thread nD τ).loc cc0_scoped4) ↦[PS s]{fullShare} f)) :=
  (bigSep_fin2 (fun s => iprop(∃ f, pslotP c s f))).symm.trans (bigSep_congr fun s _ =>
    congrArg (fun S => (iprop(∃ f : Buf (Elt F) ((c : Thread nD τ).loc cc0_scoped4), ((c : Thread nD τ).loc cc0_scoped4) ↦[S]{fullShare} f) : sProp 𝕄)) (pslot_set s))
theorem pr_cut : (iprop(∃ f : Buf (Elt F) ((c : Thread nD τ).loc cc0_scoped4), ((c : Thread nD τ).loc cc0_scoped4) ↦{fullShare} f) : sProp 𝕄)
      ⊢ iprop((∃ f, pslotP c 0 f) ∗ (∃ f, pslotP c 1 f)) :=
  (Ring.pieces_split (ℓ := ((c : Thread nD τ).loc cc0_scoped4)) PS PS_disjoint PS_cover (fun s f => (((c : Thread nD τ).loc cc0_scoped4) ↦[PS s]{fullShare} f : sProp 𝕄)) (fun _ _ => rfl)).trans
    (Entails.of_eq (pr_pieces c).symm)
theorem pr_join : (iprop((∃ f, pslotP c 0 f) ∗ (∃ f, pslotP c 1 f)) : sProp 𝕄)
      ⊢ iprop(∃ f : Buf (Elt F) ((c : Thread nD τ).loc cc0_scoped4), ((c : Thread nD τ).loc cc0_scoped4) ↦{fullShare} f) :=
  (Entails.of_eq (pr_pieces c)).trans
    (Ring.pieces_join (ℓ := ((c : Thread nD τ).loc cc0_scoped4)) PS PS_disjoint PS_cover (fun s f => (((c : Thread nD τ).loc cc0_scoped4) ↦[PS s]{fullShare} f : sProp 𝕄)) (fun _ _ => rfl) pR.view.junk)

/-! ## The results whole -/

/-- Row `r` within its block. -/
def rowIn (r : Fin 16384) : Fin 512 := ⟨r.val % 512, by omega⟩
def idxI (y : S16384x1.Idx) : S512x1.Idx := Fin.cases (rowIn (y 0)) fun a => a.cases (y 1) (fun a => a.elim0)
def idxP (y : S16384x64.Idx) : S512x64.Idx := Fin.cases (rowIn (y 0)) fun a => a.cases (y 1) (fun a => a.elim0)

/-- The whole array whose block `b` is `iv b`. -/
def wholeI (iv : Fin 32 → S512x1.Idx → Elt F .i32) : S16384x1.Idx → Elt F .i32 := fun y => iv (rowBlk (y 0)) (idxI y)
def wholeP (pv : Fin 32 → S512x64.Idx → Elt F .f32) : S16384x64.Idx → Elt F .f32 := fun y => pv (rowBlk (y 0)) (idxP y)

theorem iblk_emb0 (b : Fin 32) (j : S512x1.Idx) : ((Rect.unit (s := S16384x1) (rowOff b) S512x1.size (iblk_in b)).emb j 0).val = 512 * b.val + (j 0).val := by
  show 512 * b.val + 1 * (j 0).val = _; omega
theorem iblk_emb1 (b : Fin 32) (j : S512x1.Idx) : ((Rect.unit (s := S16384x1) (rowOff b) S512x1.size (iblk_in b)).emb j 1).val = (j 1).val := by
  show 0 + 1 * (j 1).val = _; omega
theorem pblk_emb0 (b : Fin 32) (j : S512x64.Idx) : ((Rect.unit (s := S16384x64) (rowOff b) S512x64.size (pblk_in b)).emb j 0).val = 512 * b.val + (j 0).val := by
  show 512 * b.val + 1 * (j 0).val = _; omega
theorem pblk_emb1 (b : Fin 32) (j : S512x64.Idx) : ((Rect.unit (s := S16384x64) (rowOff b) S512x64.size (pblk_in b)).emb j 1).val = (j 1).val := by
  show 0 + 1 * (j 1).val = _; omega

theorem wholeI_emb (iv : Fin 32 → S512x1.Idx → Elt F .i32) (b : Fin 32) (j : S512x1.Idx) :
    wholeI iv ((Rect.unit (s := S16384x1) (rowOff b) S512x1.size (iblk_in b)).emb j) = iv b j := by
  have h0 := iblk_emb0 b j
  have h1 := iblk_emb1 b j
  generalize (Rect.unit (s := S16384x1) (rowOff b) S512x1.size (iblk_in b)).emb j = y at h0 h1
  have hj : (j 0).val < 512 := (j 0).isLt
  have eb : rowBlk (y 0) = b := Fin.ext (by show (y 0).val / 512 = _; omega)
  have ej : idxI y = j := by
    funext a; fin_cases a
    · exact Fin.ext (by show (y 0).val % 512 = (j 0).val; omega)
    · exact Fin.ext (by show (y 1).val = (j 1).val; omega)
  unfold wholeI; rw [eb, ej]
theorem wholeP_emb (pv : Fin 32 → S512x64.Idx → Elt F .f32) (b : Fin 32) (j : S512x64.Idx) :
    wholeP pv ((Rect.unit (s := S16384x64) (rowOff b) S512x64.size (pblk_in b)).emb j) = pv b j := by
  have h0 := pblk_emb0 b j
  have h1 := pblk_emb1 b j
  generalize (Rect.unit (s := S16384x64) (rowOff b) S512x64.size (pblk_in b)).emb j = y at h0 h1
  have hj : (j 0).val < 512 := (j 0).isLt
  have eb : rowBlk (y 0) = b := Fin.ext (by show (y 0).val / 512 = _; omega)
  have ej : idxP y = j := by
    funext a; fin_cases a
    · exact Fin.ext (by show (y 0).val % 512 = (j 0).val; omega)
    · exact Fin.ext (by show (y 1).val = (j 1).val; omega)
  unfold wholeP; rw [eb, ej]

/-- A block that reads `iv b` is the whole array's block. -/
theorem iblk_done (iv : Fin 32 → S512x1.Idx → Elt F .i32) (b : Fin 32) :
    ibehind c iv b ⊢ (((c : Thread nD τ).loc main_v2_0) ↦[IB b]{fullShare} (wholeI iv : Buf (Elt F) ((c : Thread nD τ).loc main_v2_0)) : sProp 𝕄) := by
  iintro ⟨%f, H, %h⟩
  have e : iblkP c b f = (((c : Thread nD τ).loc main_v2_0) ↦[IB b]{fullShare} (wholeI iv : Buf (Elt F) ((c : Thread nD τ).loc main_v2_0)) : sProp 𝕄) := by
    rw [iblkP_eq]
    refine pointsTo_congr fun y hy => ?_
    obtain ⟨j, -, rfl⟩ := Finset.mem_map.1 (Finset.ext_iff.1 (Rect.map_emb_univ _) y |>.2 hy)
    refine Eq.trans ?_ (wholeI_emb iv b j).symm
    exact congrFun h j
  irw [← e]
  iexact H
theorem pblk_done (pv : Fin 32 → S512x64.Idx → Elt F .f32) (b : Fin 32) :
    pbehind c pv b ⊢ (((c : Thread nD τ).loc main_v2_1) ↦[PB b]{fullShare} (wholeP pv : Buf (Elt F) ((c : Thread nD τ).loc main_v2_1)) : sProp 𝕄) := by
  iintro ⟨%f, H, %h⟩
  have e : pblkP c b f = (((c : Thread nD τ).loc main_v2_1) ↦[PB b]{fullShare} (wholeP pv : Buf (Elt F) ((c : Thread nD τ).loc main_v2_1)) : sProp 𝕄) := by
    rw [pblkP_eq]
    refine pointsTo_congr fun y hy => ?_
    obtain ⟨j, -, rfl⟩ := Finset.mem_map.1 (Finset.ext_iff.1 (Rect.map_emb_univ _) y |>.2 hy)
    refine Eq.trans ?_ (wholeP_emb pv b j).symm
    exact congrFun h j
  irw [← e]
  iexact H

theorem i_join (iv : Fin 32 → S512x1.Idx → Elt F .i32) :
    bigSep Finset.univ (ibehind c iv) ⊢ (((c : Thread nD τ).loc main_v2_0) ↦{fullShare} (wholeI iv : Buf (Elt F) ((c : Thread nD τ).loc main_v2_0)) : sProp 𝕄) := by
  rw [Ring.pointsTo_blocks (ℓ := (c : Thread nD τ).loc main_v2_0) IB IB_disjoint IB_cover]
  exact bigSep_mono fun b _ => iblk_done c iv b
theorem p_join (pv : Fin 32 → S512x64.Idx → Elt F .f32) :
    bigSep Finset.univ (pbehind c pv) ⊢ (((c : Thread nD τ).loc main_v2_1) ↦{fullShare} (wholeP pv : Buf (Elt F) ((c : Thread nD τ).loc main_v2_1)) : sProp 𝕄) := by
  rw [Ring.pointsTo_blocks (ℓ := (c : Thread nD τ).loc main_v2_1) PB PB_disjoint PB_cover]
  exact bigSep_mono fun b _ => pblk_done c pv b

end Cut

end Cert.Proof.KI

end
-- ==== Proof.IdealLaunch.lean ====
/-
  The launch: the region's invariant, the body obligation at its one point, and what every buffer of @main holds when it ends.
-/
module

public import proofs.«01_k».proof.Proof.IdealBlocks

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-! ## The body's own semaphore cells -/

abbrev osem : Fin 8 → SemLoc sig := ![.dma (xcell 0).sem, .dma (xcell 1).sem, .dma (xcell 2).sem, .dma (xcell 3).sem,
  .dma (icell 0).sem, .dma (icell 1).sem, .dma (pcell 0).sem, .dma (pcell 1).sem]
theorem ownSemFacts : Pipeline.OwnSemFacts spec0 osem := by decide +kernel

theorem ownSems0_eq (c : Dev nD) :
    (Pipeline.ownSems0 (Ix := Unit) (Name := ℕ) (U := Pipeline.UD sig nD τ) (Lvl := ℕ) (Val := Elt F) (τ := τ) osem c : sProp 𝕄)
      = iprop(xcellP c 0 ∗ xcellP c 1 ∗ xcellP c 2 ∗ xcellP c 3 ∗ icellP c 0 ∗ icellP c 1 ∗ pcellP c 0 ∗ pcellP c 1) :=
  Pipeline.ownSems0_eq_of_list c osem [0, 1, 2, 3, 4, 5, 6, 7] (by decide) (by decide)

/-! ## The buffers the body reads and writes whole -/

/-- The tokens' buffer, read by the body's own copies. -/
def H0 : Finset (Ref sig .tc) := {main_v0}
/-- The two results, written by the body's own copies. -/
def R0 : Finset (Ref sig .tc) := {main_v2_0, main_v2_1}

variable (m : (ℓ : Loc nD τ sig) → Buf (Elt F) ℓ) (ρ : Dev nD → PrngReg)

abbrev st0 (t : Fin cfg0.N) : Memref sig .tc .vmem S4096x64 .f32 := win0_0.stage (cfg0.slots t 0)
abbrev hst0 (t : Fin cfg0.N) : (st0 t).IsWhole := hstage0_0 0

/-- The tokens as the region finds them. -/
abbrev XA (c : Dev nD) : Buf (Elt F) (xM.view.loc (c : Thread nD τ)) := V m c main_v0
/-- The signs the body computes. -/
def sgn (c : Dev nD) : Vec F S4096x64 .bf16 := signs c (st0 t0_0) ((st0 t0_0).view.rep (iblk m c 0 t0_0))
/-- The row indices of block `b`. -/
def idxOf (c : Dev nD) (b : Fin 32) : S512x1.Idx → Elt F .i32 :=
  shapeCast S512x1 (k0_pay3 (xval c (XA m c) b) (sgn m c)) shapeCasts_S1x512x1_S512x1
/-- The probabilities of block `b`. -/
def probOf (c : Dev nD) (b : Fin 32) : S512x64.Idx → Elt F .f32 :=
  shapeCast S512x64 (k0_pay4 (xval c (XA m c) b) (sgn m c)) shapeCasts_S1x512x64_S512x64

theorem ival_of (c : Dev nD) (g) (h : gval c g = sgn m c) : ival c (XA m c) g = idxOf m c := by
  funext b; unfold ival idxOf; rw [h]
theorem pval_of (c : Dev nD) (g) (h : gval c g = sgn m c) : pval c (XA m c) g = probOf m c := by
  funext b; unfold pval probOf; rw [h]

/-- What the buffers hold when the region ends. -/
def G (c : Dev nD) : (b : Ref sig .tc) → Buf (Elt F) ((c : Thread nD τ).loc b) :=
  Function.update (Function.update (V m c) main_v2_0 (wholeI (idxOf m c))) main_v2_1 (wholeP (probOf m c))
theorem G_i (c : Dev nD) : G m c main_v2_0 = wholeI (idxOf m c) := by
  unfold G
  rw [Function.update_of_ne (by decide)]; exact Function.update_self _ _ _
theorem G_p (c : Dev nD) : G m c main_v2_1 = wholeP (probOf m c) := by
  unfold G
  exact Function.update_self _ _ _

/-! ## The region's invariant -/

/-- Before the point and after it: the scratch buffers, the cells at zero, the tokens, the results. -/
def inv (c : Dev nD) (G : (c : Dev nD) → (b : Ref sig .tc) → Buf (Elt F) ((c : Thread nD τ).loc b)) : sProp 𝕄 :=
  Pipeline.ΦDRV osem spec0 H0 R0 (V m) G c

theorem inv_eq (c : Dev nD) (G : (c : Dev nD) → (b : Ref sig .tc) → Buf (Elt F) ((c : Thread nD τ).loc b)) :
    inv m c G = iprop(((∃ f : Buf (Elt F) ((c : Thread nD τ).loc cc0_scratch0), ((c : Thread nD τ).loc cc0_scratch0) ↦{fullShare} f)
        ∗ (∃ f : Buf (Elt F) ((c : Thread nD τ).loc cc0_scoped0), ((c : Thread nD τ).loc cc0_scoped0) ↦{fullShare} f)
        ∗ (∃ f : Buf (Elt F) ((c : Thread nD τ).loc cc0_scoped2), ((c : Thread nD τ).loc cc0_scoped2) ↦{fullShare} f)
        ∗ (∃ f : Buf (Elt F) ((c : Thread nD τ).loc cc0_scoped4), ((c : Thread nD τ).loc cc0_scoped4) ↦{fullShare} f))
      ∗ (xcellP c 0 ∗ xcellP c 1 ∗ xcellP c 2 ∗ xcellP c 3 ∗ icellP c 0 ∗ icellP c 1 ∗ pcellP c 0 ∗ pcellP c 1)
      ∗ (((c : Thread nD τ).loc main_v0) ↦{fullShare} V m c main_v0)
      ∗ (((c : Thread nD τ).loc main_v2_0) ↦{fullShare} G c main_v2_0) ∗ (((c : Thread nD τ).loc main_v2_1) ↦{fullShare} G c main_v2_1)) := by
  unfold inv Pipeline.ΦDRV
  rw [scopedRest0_eq, ownSems0_eq, BI.bigSep_eq_bigSepL_of_eq [main_v0] (S := H0) (by decide) (by decide),
    BI.bigSep_eq_bigSepL_of_eq [main_v2_0, main_v2_1] (S := R0) (by decide) (by decide)]
  rfl

theorem gP_eq (c : Dev nD) (g : Buf (Elt F) ((c : Thread nD τ).loc cc0_scratch0)) :
    gP c g = (((c : Thread nD τ).loc cc0_scratch0) ↦{fullShare} g : sProp 𝕄) :=
  congrArg (fun S => (((c : Thread nD τ).loc cc0_scratch0) ↦[S]{fullShare} g : sProp 𝕄)) (View.set_whole cc0_scratch0)

/-- The body takes the invariant at the launch contents and leaves it at the final ones. -/
theorem inv_in (c : Dev nD) (arg1 : Memref sig .tc .vmem S4096x64 .f32) (w0 : Buf (Elt F) (arg1.view.loc (c : Thread nD τ))) (W : Waits sig Unit) :
    iprop(inv m c (V m) ∗ wP c arg1 w0 ∗ owes (c : Thread nD τ) 0 W) ⊢ iprop(∃ g0, PRE c (XA m c) arg1 w0 g0 W) := by
  rw [inv_eq]
  iintro ⟨⟨⟨⟨%g0, HG⟩, HX, HI, HP⟩, ⟨Hx0, Hx1, Hx2, Hx3, Hi0, Hi1, Hp0, Hp1⟩, HV, HR0, HR1⟩, Hw, HW⟩
  ihave HX' := (xr_cut c) $$ HX
  ihave HI' := (ir_cut c) $$ HI
  ihave HP' := (pr_cut c) $$ HP
  ihave HA := (i_cut c _) $$ HR0
  ihave HB := (p_cut c _) $$ HR1
  icases HX' with ⟨Hs0, Hs1, Hs2, Hs3⟩
  icases HI' with ⟨Hj0, Hj1⟩
  icases HP' with ⟨Hq0, Hq1⟩
  iexists g0
  unfold PRE
  rw [← homes_zero, ← x_eq, bigSep_fin2, bigSep_fin2]
  isplitl [Hw]; · iexact Hw
  isplitl [HG]
  · iapply (Entails.of_eq (gP_eq c g0).symm)
    iexact HG
  isplitl [HW]; · iexact HW
  isplitl [HV]; · iexact HV
  isplitl [Hs0 Hs1 Hs2 Hs3 Hx0 Hx1 Hx2 Hx3]
  · isplitl [Hs0 Hx0]; · isplitl [Hs0]; · iexact Hs0
                         iexact Hx0
    isplitl [Hs1 Hx1]; · isplitl [Hs1]; · iexact Hs1
                         iexact Hx1
    isplitl [Hs2 Hx2]; · isplitl [Hs2]; · iexact Hs2
                         iexact Hx2
    isplitl [Hs3]; · iexact Hs3
    iexact Hx3
  isplitl [HA Hj0 Hj1 Hi0 Hi1]
  · isplitl [HA]; · iexact HA
    isplitl [Hj0 Hi0]; · isplitl [Hj0]; · iexact Hj0
                         iexact Hi0
    isplitl [Hj1]; · iexact Hj1
    iexact Hi1
  · isplitl [HB]; · iexact HB
    isplitl [Hq0 Hp0]; · isplitl [Hq0]; · iexact Hq0
                         iexact Hp0
    isplitl [Hq1]; · iexact Hq1
    iexact Hp1

theorem inv_out (c : Dev nD) (t : Fin cfg0.N) :
    POST c (XA m c) (st0 t) ((st0 t).view.rep (iblk m c 0 t))
      ⊢ iprop(inv m c (G m) ∗ wP c (st0 t) ((st0 t).view.rep (iblk m c 0 t)) ∗ ∃ W, owes (c : Thread nD τ) 0 W) := by
  obtain rfl : t = t0_0 := fin_N0 t
  rw [inv_eq, G_i, G_p]
  unfold POST
  rw [← x_eq]
  iintro ⟨Hw, HW, HV, ⟨⟨Hs0, Hx0⟩, ⟨Hs1, Hx1⟩, ⟨Hs2, Hx2⟩, ⟨Hs3, Hx3⟩⟩, ⟨%g, HG, %hg, ⟨HA, HI⟩, ⟨HB, HP⟩⟩⟩
  rw [ival_of m c g hg, pval_of m c g hg]
  ihave HI' := (Entails.of_eq (bigSep_fin2 _)) $$ HI
  ihave HP' := (Entails.of_eq (bigSep_fin2 _)) $$ HP
  icases HI' with ⟨⟨Hj0, Hi0⟩, ⟨Hj1, Hi1⟩⟩
  icases HP' with ⟨⟨Hq0, Hp0⟩, ⟨Hq1, Hp1⟩⟩
  isplitl [HG Hs0 Hs1 Hs2 Hs3 Hj0 Hj1 Hq0 Hq1 Hx0 Hx1 Hx2 Hx3 Hi0 Hi1 Hp0 Hp1 HV HA HB]
  · isplitl [HG Hs0 Hs1 Hs2 Hs3 Hj0 Hj1 Hq0 Hq1]
    · isplitl [HG]
      · iexists g
        iapply (Entails.of_eq (gP_eq c g))
        iexact HG
      isplitl [Hs0 Hs1 Hs2 Hs3]
      · iapply (xr_join c)
        isplitl [Hs0]; · iexact Hs0
        isplitl [Hs1]; · iexact Hs1
        isplitl [Hs2]; · iexact Hs2
        iexact Hs3
      isplitl [Hj0 Hj1]
      · iapply (ir_join c)
        isplitl [Hj0]; · iexact Hj0
        iexact Hj1
      iapply (pr_join c)
      isplitl [Hq0]; · iexact Hq0
      iexact Hq1
    isplitl [Hx0 Hx1 Hx2 Hx3 Hi0 Hi1 Hp0 Hp1]
    · isplitl [Hx0]; · iexact Hx0
      isplitl [Hx1]; · iexact Hx1
      isplitl [Hx2]; · iexact Hx2
      isplitl [Hx3]; · iexact Hx3
      isplitl [Hi0]; · iexact Hi0
      isplitl [Hi1]; · iexact Hi1
      isplitl [Hp0]; · iexact Hp0
      iexact Hp1
    isplitl [HV]; · iexact HV
    isplitl [HA]
    · iapply (i_join c (idxOf m c)); iexact HA
    · iapply (p_join c (probOf m c)); iexact HB
  isplitl [Hw]; · iexact Hw
  iexact HW

/-! ## The pipeline's proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
  Φ t := if t.val = 0 then inv m c (V m) else inv m c (G m)
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem after_w0 (c : Dev nD) (t : Fin cfg0.N) : (dats m 0 c).after 0 t = iblk m c 0 t := by dsimp only [dats]
theorem inv_before (c : Dev nD) (t : Fin cfg0.N) : (dats m 0 c).Φ t.castSucc = inv m c (V m) := by
  obtain rfl : t = t0_0 := fin_N0 t
  dsimp only [dats]; exact if_pos rfl
theorem inv_after (c : Dev nD) (t : Fin cfg0.N) : (dats m 0 c).Φ t.succ = inv m c (G m) := by
  dsimp only [dats]; exact if_neg (Nat.succ_ne_zero _)

theorem defs_tc : (defs₀ (F := F)) .tc cfg0.body = fun a => bodyG (win0_0.stage (a.2 0)) (hstage0_0 0) := rfl
theorem prog_eq (t : Fin cfg0.N) : (defs₀ (F := F)) .tc cfg0.body (cfg0.bodyArgs t (cfg0.slots t)) = bodyG (st0 t) (hst0 t) :=
  (congrFun defs_tc _).trans rfl

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, after_w0]
  rw [inv_before, inv_after]
  unfold Dat.owesAt Pipeline.owesWithin
  rw [show (dats m 0 c).owed t.castSucc = 0 from rfl, show (dats m 0 c).owed t.succ = 0 from rfl]
  unfold owns
  iintro ⟨HΦ, ⟨%W, -, HW⟩, ⟨%d0, %g0, %hg0, Hst⟩⟩
  ihave Hst' := (pointsTo_rep_entails (c : Thread nD τ) (st0 t) g0 fullShare) $$ Hst
  rw [hg0]
  ihave HP := (inv_in m c (st0 t) ((st0 t).view.rep (iblk m c 0 t)) W) $$ [HΦ HW Hst']
  · isplitl [HΦ]; · iexact HΦ
    isplitl [Hst']; · iexact Hst'
    iexact HW
  icases HP with ⟨%gs, HP⟩
  sl_rw [prog_eq t]
  iapply (bodyRun c (XA m c) (st0 t) (hst0 t) ((st0 t).view.rep (iblk m c 0 t)) gs W)
  isplitl [HP]; · iexact HP
  iintro HQ
  ihave HQ' := (inv_out m c t) $$ HQ
  icases HQ' with ⟨HΦ, Hst, ⟨%W', HW⟩⟩
  isplitl [HΦ]; · iexact HΦ
  isplitl [HW]
  · iexists W'; isplitr; · ipureintro; exact fun _ _ => Or.inl trivial
    iexact HW
  iexists _; isplitr; · ipureintro; exact View.read_rep _ _
  iexact Hst

/-! ## The run -/

set_option maxHeartbeats 800000 in
theorem hmainD : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What @main leaves at a buffer that is no array of the pipeline. -/
abbrev fin (c : Dev nD) (b : Ref sig .tc) : Buf (Elt F) ((c : Thread nD τ).loc b) :=
  StableHlo.after (List.flatten [hostOps1]) (Pipeline.withArrays spec0 c (Pipeline.withR (V0 m c) R0 c (G m c)) fun w => (dats m 0 c).arrAt w cfg0.N) (Proc.devRef .tc b)

theorem run : θ_run defs (onTc (τ := τ) (main (F := F))) (s₀ m ρ) (fun r => (∀ c : Dev nD, ∀ b ∈ Pipeline.restRefs sig spec0,
    r.2.mem ((c : Thread nD τ).loc b) = fin m c b) ∧ r.2.sem = fun _ => 0) :=
  Pipeline.θ_run_frame_dmaR_aroundV cfgs (dats m) 0 launch0 osem defs₀ 𝒱₀ ownSemFacts H0 R0 (by decide) (by decide) m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := G m) (hmain := hmainD m) (hA := fun _ _ => rfl)
    (hin := fun c => Entails.of_eq (show inv m c (V m) = (dats m 0 c).Φ 0 from (inv_before m c t0_0).symm))
    (hout := fun c => Entails.of_eq (show (dats m 0 c).Φ (Fin.last cfg0.N) = inv m c (G m) from inv_after m c t0_0))
    (Q' := _) (hQ' := fun r h => ⟨fun c b hb => (h.1 c).2 b hb, h.2⟩)

end Cert.Proof.KI

end
-- ==== Proof.IdealFrame.lean ====
/-
  What @main leaves: the arguments as launched, the two results as the blocks computed them.
-/
module

public import proofs.«01_k».proof.Proof.IdealLaunch

@[expose] public section

noncomputable section

namespace Cert.Proof.KI

open Cert.KernelIdeal Cert.KernelIdeal.Gen
open Idealize.ShloMosaic Idealize.ShloMosaic.TcCoe Idealize.ShloMosaic.Tactic
open Idealize.SL Idealize.SL.Sem

variable {F : FTy → Type} [FloatOps F]
variable (m : (ℓ : Loc nD τ sig) → Buf (Elt F) ℓ) (ρ : Dev nD → PrngReg)

theorem fin_arg0 (c : Dev nD) : fin m c main_arg0 = m ((c : Thread nD τ).loc main_arg0) := by
  unfold fin
  simp only [hostOps1, List.flatten_cons, List.flatten_nil, List.append_nil, StableHlo.after_cons, StableHlo.after_nil]
  rw [StableHlo.reshape_result_ne _ _ _ _ _ _ _ (by decide), StableHlo.reshape_result_ne _ _ _ _ _ _ _ (by decide),
    Pipeline.withArrays_of_ne _ c _ _ main_arg0 (by exact (by decide : ∀ w, Pipeline.arrRef spec0 w ≠ main_arg0)),
    Pipeline.withR_of_not_mem _ _ _ _ _ (by decide)]
  exact V_main_arg0 m c
theorem fin_arg1 (c : Dev nD) : fin m c main_arg1 = m ((c : Thread nD τ).loc main_arg1) := by
  unfold fin
  simp only [hostOps1, List.flatten_cons, List.flatten_nil, List.append_nil, StableHlo.after_cons, StableHlo.after_nil]
  rw [StableHlo.reshape_result_ne _ _ _ _ _ _ _ (by decide), StableHlo.reshape_result_ne _ _ _ _ _ _ _ (by decide),
    Pipeline.withArrays_of_ne _ c _ _ main_arg1 (by exact (by decide : ∀ w, Pipeline.arrRef spec0 w ≠ main_arg1)),
    Pipeline.withR_of_not_mem _ _ _ _ _ (by decide)]
  exact V_main_arg1 m c

theorem fin_v3 (c : Dev nD) : fin m c main_v3 = shapeCast S4x4096 (wholeI (idxOf m c)) shapeCasts_S16384x1_S4x4096 := by
  unfold fin
  simp only [hostOps1, List.flatten_cons, List.flatten_nil, List.append_nil, StableHlo.after_cons, StableHlo.after_nil]
  rw [StableHlo.reshape_result_ne _ _ _ _ _ _ _ (by decide), StableHlo.reshape_result,
    Pipeline.withArrays_of_ne _ c _ _ main_v2_0 (by exact (by decide : ∀ w, Pipeline.arrRef spec0 w ≠ main_v2_0)),
    Pipeline.withR_of_mem _ _ _ _ _ (by decide), G_i]
  rfl
theorem fin_v4 (c : Dev nD) : fin m c main_v4 = shapeCast S4x4096x64 (wholeP (probOf m c)) shapeCasts_S16384x64_S4x4096x64 := by
  unfold fin
  simp only [hostOps1, List.flatten_cons, List.flatten_nil, List.append_nil, StableHlo.after_cons, StableHlo.after_nil]
  rw [StableHlo.reshape_result, StableHlo.reshape_result_ne _ _ _ _ _ _ _ (by decide),
    Pipeline.withArrays_of_ne _ c _ _ main_v2_1 (by exact (by decide : ∀ w, Pipeline.arrRef spec0 w ≠ main_v2_1)),
    Pipeline.withR_of_mem _ _ _ _ _ (by decide), G_p]
  rfl

/-- Every run ends with the arguments as launched, the results as computed and every counter at zero. -/
theorem run_values : θ_run defs (onTc (τ := τ) (main (F := F))) ⟨m, fun _ => 0, ρ⟩ (fun r => (∀ c : Dev nD,
    r.2.mem ((c : Thread nD τ).loc main_v3) = shapeCast S4x4096 (wholeI (idxOf m c)) shapeCasts_S16384x1_S4x4096
    ∧ r.2.mem ((c : Thread nD τ).loc main_v4) = shapeCast S4x4096x64 (wholeP (probOf m c)) shapeCasts_S16384x64_S4x4096x64
    ∧ r.2.mem ((c : Thread nD τ).loc main_arg0) = m ((c : Thread nD τ).loc main_arg0)
    ∧ r.2.mem ((c : Thread nD τ).loc main_arg1) = m ((c : Thread nD τ).loc main_arg1)) ∧ r.2.sem = fun _ => 0) :=
  (θ_run defs _ _).mono (fun r h => ⟨fun c =>
    ⟨(h.1 c main_v3 (Pipeline.mem_restRefs_of main_v3 (by decide) (by decide))).trans (fin_v3 m c),
     (h.1 c main_v4 (Pipeline.mem_restRefs_of main_v4 (by decide) (by decide))).trans (fin_v4 m c),
     (h.1 c main_arg0 (Pipeline.mem_restRefs_of main_arg0 (by decide) (by decide))).trans (fin_arg0 m c),
     (h.1 c main_arg1 (Pipeline.mem_restRefs_of main_arg1 (by decide) (by decide))).trans (fin_arg1 m c)⟩, h.2⟩) (run m ρ)

/-- The frame. -/
theorem run_frame : θ_run defs (onTc (τ := τ) (main (F := F))) ⟨m, fun _ => 0, ρ⟩ (fun r => (∀ c : Dev nD,
    r.2.mem ((c : Thread nD τ).loc main_arg0) = m ((c : Thread nD τ).loc main_arg0)
    ∧ r.2.mem ((c : Thread nD τ).loc main_arg1) = m ((c : Thread nD τ).loc main_arg1)) ∧ r.2.sem = fun _ => 0) :=
  (θ_run defs _ _).mono (fun r h => ⟨fun c => (h.1 c).2.2, h.2⟩) (run_values m ρ)

end Cert.Proof.KI

end
-- ==== Proof.RefRun.lean ====
/-
  The reference's run: the array program's operations as a list, its two results as terms of its two arguments, and
  the run read at them.
-/
module

public import proofs.«01_k».proof.Proof.Gen.ReferenceIdeal
public import Idealize.ShloMosaic.Lib.Quiescent
public import Idealize.ShloMosaic.Lib.StableHlo.Run

@[expose] public section

noncomputable section

namespace Cert.Proof.RI

open Idealize.ShloMosaic Idealize.SL.Sem Idealize.ShloMosaic.StableHlo Idealize.ShloMosaic.TcCoe
open Cert.ReferenceIdeal Cert.ReferenceIdeal.Facts₀

variable {F : FTy → Type} [FloatOps F]

/-- The scores: each token's inner product with each expert's sign row. -/
def score (a0 : Vec F S4x4096x4096 .f32) (a1 : Vec F S64x4096 .f32) : Vec F S4x4096x64 .f32 :=
  Host.dotGeneral dot_S4x4096x4096_S64x4096_S4x4096x64_2_1_01_0_n_n none a0 (Host.sign a1)

/-- The position of each row's largest entry, as the array program's two-operand reduction finds it. -/
def idx (s : Vec F S4x4096x64 .f32) : Vec F S4x4096 .i32 := fun j =>
  (Host.argReduce reducer_argmax_f32_i32 s (iotaInDim S4x4096x64 32 2) (constant S_ .f32 0xFF800000#32) (constantI S_ 32 0#32)
    reducesTo_S4x4096x64_S4x4096_d2 h_S_ j).2

/-- Each row's exponentials, shifted by the row's largest entry. -/
def expo (s : Vec F S4x4096x64 .f32) : Vec F S4x4096x64 .f32 :=
  Host.exp (subf s (broadcastInDim S4x4096x64 ![0, 1, 2] bcast_S4x4096x1_S4x4096x64_0_1_2
    (broadcastInDim S4x4096x1 ![0, 1] bcast_S4x4096_S4x4096x1_0_1
      (maximumf (broadcastInDim S4x4096 ![] bcast_S_S4x4096 (constant S_ .f32 0xFF800000#32))
        (Host.reduce FloatOps.maximumf s (constant S_ .f32 0xFF800000#32) reducesTo_S4x4096x64_S4x4096_d2 h_S_)))))

/-- Each row divided by its sum. -/
def norm (e : Vec F S4x4096x64 .f32) : Vec F S4x4096x64 .f32 :=
  Host.divf e (broadcastInDim S4x4096x64 ![0, 1, 2] bcast_S4x4096x1_S4x4096x64_0_1_2
    (broadcastInDim S4x4096x1 ![0, 1] bcast_S4x4096_S4x4096x1_0_1
      (Host.reduceAdd e (constant S_ .f32 0x00000000#32) reducesTo_S4x4096x64_S4x4096_d2 h_S_)))

/-- The program's operations in order. -/
abbrev ops : List (HloOp τ sig (Elt F)) := [
  unary main_arg1 main_v0 Host.sign,
  binary main_arg0 main_v0 main_v1 (fun l r => Host.dotGeneral dot_S4x4096x4096_S64x4096_S4x4096x64_2_1_01_0_n_n none l r),
  TRef.nullary main_call0.v0 (iotaInDim S4x4096x64 32 2),
  TRef.nullary main_call0.cst (constant S_ .f32 0xFF800000#32),
  TRef.nullary main_call0.c (constantI S_ 32 0#32),
  TRef.quaternary (.of main_v1) main_call0.v0 main_call0.cst main_call0.c main_call0.v1_0 (fun x y u v j => (Host.argReduce reducer_argmax_f32_i32 x y u v reducesTo_S4x4096x64_S4x4096_d2 h_S_ j).1),
  TRef.quaternary (.of main_v1) main_call0.v0 main_call0.cst main_call0.c main_call0.v1_1 (fun x y u v j => (Host.argReduce reducer_argmax_f32_i32 x y u v reducesTo_S4x4096x64_S4x4096_d2 h_S_ j).2),
  nullary main_cst (constant S_ .f32 0xFF800000#32),
  binary main_v1 main_cst main_v3 (fun x v => Host.reduce FloatOps.maximumf x v reducesTo_S4x4096x64_S4x4096_d2 h_S_),
  nullary main_cst_0 (constant S_ .f32 0xFF800000#32),
  unary main_cst_0 main_v4 (broadcastInDim S4x4096 ![] bcast_S_S4x4096),
  binary main_v4 main_v3 main_v5 maximumf,
  unary main_v5 main_v6 (broadcastInDim S4x4096x1 ![0, 1] bcast_S4x4096_S4x4096x1_0_1),
  unary main_v6 main_v7 (broadcastInDim S4x4096x64 ![0, 1, 2] bcast_S4x4096x1_S4x4096x64_0_1_2),
  binary main_v1 main_v7 main_v8 subf,
  unary main_v8 main_v9 Host.exp,
  nullary main_cst_1 (constant S_ .f32 0x00000000#32),
  binary main_v9 main_cst_1 main_v10 (fun x v => Host.reduceAdd x v reducesTo_S4x4096x64_S4x4096_d2 h_S_),
  unary main_v10 main_v11 (broadcastInDim S4x4096x1 ![0, 1] bcast_S4x4096_S4x4096x1_0_1),
  unary main_v11 main_v12 (broadcastInDim S4x4096x64 ![0, 1, 2] bcast_S4x4096x1_S4x4096x64_0_1_2),
  binary main_v9 main_v12 main_v13 Host.divf ]

/-- The program is the list. -/
theorem main_eq (c : Dev nD) : main (F := F) c = seq ops := by
  simp only [main, fn_argmax.body, seq, bind_assoc, pure_bind]
  rfl

/-- The first result of the list's run. -/
theorem idx_eq (V : Valuation τ sig (Elt F)) :
    after ops V (main_v2 : DevRef τ sig) = idx (score (V (main_arg0 : DevRef τ sig)) (V (main_arg1 : DevRef τ sig))) := by
  after_results_simp
  rfl

/-- The second result of the list's run. -/
theorem prob_eq (V : Valuation τ sig (Elt F)) :
    after ops V (main_v13 : DevRef τ sig)
      = norm (expo (score (V (main_arg0 : DevRef τ sig)) (V (main_arg1 : DevRef τ sig)))) := by
  after_results_simp
  rfl

theorem arg0_eq (V : Valuation τ sig (Elt F)) : after ops V (main_arg0 : DevRef τ sig) = V (main_arg0 : DevRef τ sig) := by
  simp only [after_cons, after_nil]
  rfl

theorem arg1_eq (V : Valuation τ sig (Elt F)) : after ops V (main_arg1 : DevRef τ sig) = V (main_arg1 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

/-- Every operation names arrays of the one core only. -/
theorem ops_sub : (ops : List (HloOp τ sig (Elt F))).Forall fun op => op.bufs ⊆ tcRefs τ sig :=
  ⟨unary_bufs_sub .., binary_bufs_sub .., nullary_bufs_sub .., nullary_bufs_sub .., nullary_bufs_sub ..,
    quaternary_bufs_sub .., quaternary_bufs_sub .., nullary_bufs_sub .., binary_bufs_sub .., nullary_bufs_sub ..,
    unary_bufs_sub .., binary_bufs_sub .., unary_bufs_sub .., unary_bufs_sub .., binary_bufs_sub .., unary_bufs_sub ..,
    nullary_bufs_sub .., binary_bufs_sub .., unary_bufs_sub .., unary_bufs_sub .., binary_bufs_sub ..⟩

/-- The whole run: both results at their terms, the arguments unchanged, every counter at zero. -/
theorem run_values (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_v2)
            = idx (score (m ((c.tc : Thread nD τ).loc main_arg0)) (m ((c.tc : Thread nD τ).loc main_arg1)))
        ∧ r.2.mem ((c.tc : Thread nD τ).loc main_v13)
            = norm (expo (score (m ((c.tc : Thread nD τ).loc main_arg0)) (m ((c.tc : Thread nD τ).loc main_arg1))))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 := by
  refine (θ_run _ _ _).mono (fun r h => ?_)
    (run_seq scopedRefs_eq scopedSems_eq defs main (fun _ => ops) main_eq (fun _ => ops_sub) m ρ)
  exact ⟨fun c => ⟨(h c main_v2).trans (idx_eq _), (h c main_v13).trans (prob_eq _), (h c main_arg0).trans (arg0_eq _),
    (h c main_arg1).trans (arg1_eq _)⟩, sem_eq_zero_of_no_sems rfl _⟩

end Cert.Proof.RI

end
-- ==== Proof.RowMath.lean ====
/-
  One row of scores. The array program's two-operand reduction keeps a (score, position) pair and the kernel takes the
  least position whose score is the row's largest; both are the first position of a largest score.
-/
module

public import proofs.«01_k».proof.Defs
public import Idealize.ShloMosaic.Lib.Tactic
public import Idealize.ShloMosaic.PureOps.Reduce
public import Idealize.ShloMosaic.PureOps.Ideal.Laws

@[expose] public section

noncomputable section

namespace Cert.Proof.Row

open Idealize.ShloMosaic

/-- The pair `r` is at least as good as `p`: a larger score, or the same score no later. -/
def Dom (r p : EReal × BitVec 32) : Prop := p.1 < r.1 ∨ (p.1 = r.1 ∧ r.2.toInt ≤ p.2.toInt)

theorem Dom.refl (r : EReal × BitVec 32) : Dom r r := Or.inr ⟨rfl, le_refl _⟩

theorem Dom.trans {r q p : EReal × BitVec 32} (h : Dom r q) (h' : Dom q p) : Dom r p := by
  unfold Dom at *
  rcases h with h | ⟨h, k⟩ <;> rcases h' with h' | ⟨h', k'⟩
  · exact Or.inl (lt_trans h' h)
  · exact Or.inl (h' ▸ h)
  · exact Or.inl (h ▸ h')
  · exact Or.inr ⟨h'.trans h, le_trans k k'⟩

/-- The array program's choice between two pairs, in words. -/
theorem pick_eq [Cert.ReferenceIdeal.Facts] (a b : EReal × BitVec 32) :
    Cert.ReferenceIdeal.reducer_argmax_f32_i32 (F := Ideal) a b
      = if b.1 < a.1 then a else if a.1 = b.1 ∧ a.2.toInt < b.2.toInt then a else b := by
  obtain ⟨a1, a2⟩ := a
  obtain ⟨b1, b2⟩ := b
  have hc : ∀ (p : CmpFPredicate) (x y : EReal), FloatOps.cmpf (F := Ideal) (φ := .f32) p x y = Ideal.cmp p x y := fun _ _ _ => rfl
  simp only [Cert.ReferenceIdeal.reducer_argmax_f32_i32, hc, Ideal.cmp, IntOp.cmpi, Scalar.select, IntOp.ori, IntOp.andi,
    BitVec.slt]
  by_cases h1 : b1 < a1
  · simp only [h1, decide_true, BitVec.ofBool_true, ne_eq, not_true_eq_false, decide_false, if_true]
    cases decide (a1 = b1) <;> cases decide (a2.toInt < b2.toInt) <;> rfl
  · by_cases h2 : a1 = b1
    · subst h2
      by_cases h3 : a2.toInt < b2.toInt
      · simp [h3]
      · simp [h3]
    · simp [h1, h2]

theorem pick_spec [Cert.ReferenceIdeal.Facts] (a b : EReal × BitVec 32) :
    (Cert.ReferenceIdeal.reducer_argmax_f32_i32 (F := Ideal) a b = a ∨ Cert.ReferenceIdeal.reducer_argmax_f32_i32 (F := Ideal) a b = b)
      ∧ Dom (Cert.ReferenceIdeal.reducer_argmax_f32_i32 (F := Ideal) a b) a
      ∧ Dom (Cert.ReferenceIdeal.reducer_argmax_f32_i32 (F := Ideal) a b) b := by
  rw [pick_eq]
  by_cases h1 : b.1 < a.1
  · rw [if_pos h1]; exact ⟨Or.inl rfl, Dom.refl _, Or.inl h1⟩
  · rw [if_neg h1]
    by_cases h2 : a.1 = b.1 ∧ a.2.toInt < b.2.toInt
    · rw [if_pos h2]; exact ⟨Or.inl rfl, Dom.refl _, Or.inr ⟨h2.1.symm, le_of_lt h2.2⟩⟩
    · rw [if_neg h2]
      refine ⟨Or.inr rfl, ?_, Dom.refl _⟩
      rcases lt_or_eq_of_le (not_lt.1 h1) with h | h
      · exact Or.inl h
      · exact Or.inr ⟨h, not_lt.1 fun h' => h2 ⟨h, h'⟩⟩

/-- The choice made down a list is one of the pairs met and as good as each of them. -/
theorem foldl_spec [Cert.ReferenceIdeal.Facts] (l : List (EReal × BitVec 32)) : ∀ i : EReal × BitVec 32,
    (l.foldl (Cert.ReferenceIdeal.reducer_argmax_f32_i32 (F := Ideal)) i = i ∨ l.foldl (Cert.ReferenceIdeal.reducer_argmax_f32_i32 (F := Ideal)) i ∈ l)
      ∧ Dom (l.foldl (Cert.ReferenceIdeal.reducer_argmax_f32_i32 (F := Ideal)) i) i
      ∧ ∀ p ∈ l, Dom (l.foldl (Cert.ReferenceIdeal.reducer_argmax_f32_i32 (F := Ideal)) i) p := by
  induction l with
  | nil => intro i; exact ⟨Or.inl rfl, Dom.refl _, fun p hp => absurd hp List.not_mem_nil⟩
  | cons q l ih =>
    intro i
    obtain ⟨hm, hi, hl⟩ := ih (Cert.ReferenceIdeal.reducer_argmax_f32_i32 (F := Ideal) i q)
    obtain ⟨sm, s1, s2⟩ := pick_spec i q
    rw [List.foldl_cons]
    refine ⟨?_, hi.trans s1, ?_⟩
    · rcases hm with hm | hm
      · rcases sm with sm | sm
        · exact Or.inl (hm.trans sm)
        · refine Or.inr ?_
          rw [hm, sm]; exact List.mem_cons_self
      · exact Or.inr (List.mem_cons_of_mem _ hm)
    · intro p hp
      rcases List.mem_cons.1 hp with rfl | hp
      · exact hi.trans s2
      · exact hl p hp

theorem toInt_pos (k : Fin 64) : (BitVec.ofNat 32 k.val).toInt = k.val := by
  have := k.isLt
  rw [BitVec.toInt_eq_toNat_of_lt (by rw [BitVec.toNat_ofNat]; omega), BitVec.toNat_ofNat]
  omega

/-- The first position of a largest score. -/
def First (s : Fin 64 → EReal) (k : Fin 64) : Prop := (∀ j, s j ≤ s k) ∧ ∀ j, s j = s k → k ≤ j

theorem First.unique {s : Fin 64 → EReal} {k k' : Fin 64} (h : First s k) (h' : First s k') : k = k' := by
  have e : s k = s k' := le_antisymm (h'.1 k) (h.1 k')
  exact le_antisymm (h.2 k' e.symm) (h'.2 k e)

/-- The array program's reduction of a row, in whatever order it meets the row's pairs. -/
theorem arg_first [Cert.ReferenceIdeal.Facts] (s : Fin 64 → EReal) (l : List (EReal × BitVec 32))
    (hl : ∀ p, p ∈ l ↔ ∃ k : Fin 64, p = (s k, BitVec.ofNat 32 k.val)) :
    ∃ k, First s k ∧ (l.foldl (Cert.ReferenceIdeal.reducer_argmax_f32_i32 (F := Ideal)) (⊥, 0#32)).2 = BitVec.ofNat 32 k.val := by
  obtain ⟨hm, hi, hd⟩ := foldl_spec l ((⊥, 0#32) : EReal × BitVec 32)
  generalize l.foldl (Cert.ReferenceIdeal.reducer_argmax_f32_i32 (F := Ideal)) (⊥, 0#32) = r at hm hi hd
  have hk : ∃ k : Fin 64, r = (s k, BitVec.ofNat 32 k.val) := by
    rcases hm with hm | hm
    · refine ⟨0, ?_⟩
      have h0 := hd _ ((hl _).2 ⟨0, rfl⟩)
      rw [hm] at h0 ⊢
      rcases h0 with h0 | ⟨h0, _⟩
      · exact absurd h0 not_lt_bot
      · exact Prod.ext h0.symm rfl
    · exact (hl _).1 hm
  obtain ⟨k, rfl⟩ := hk
  refine ⟨k, ⟨fun j => ?_, fun j hj => ?_⟩, rfl⟩
  · rcases hd _ ((hl _).2 ⟨j, rfl⟩) with h | ⟨h, _⟩
    · exact le_of_lt h
    · exact le_of_eq h
  · rcases hd _ ((hl _).2 ⟨j, rfl⟩) with h | ⟨_, h⟩
    · exact absurd hj (ne_of_lt h)
    · simp only [toInt_pos] at h
      exact Fin.le_def.2 (by exact_mod_cast h)

/-- The signed minimum over a set is one of the words met and no larger than each of them. -/
theorem fold_min_spec (S : Finset (Fin 64)) (b : BitVec 32) (f : Fin 64 → BitVec 32) :
    (S.fold IKind.minsi.op b f = b ∨ ∃ k ∈ S, S.fold IKind.minsi.op b f = f k)
      ∧ (S.fold IKind.minsi.op b f).toInt ≤ b.toInt ∧ ∀ k ∈ S, (S.fold IKind.minsi.op b f).toInt ≤ (f k).toInt := by
  induction S using Finset.induction_on with
  | empty => exact ⟨Or.inl rfl, le_refl _, fun k hk => absurd hk (Finset.notMem_empty k)⟩
  | insert a S ha ih =>
    obtain ⟨hm, hb, hk⟩ := ih
    rw [Finset.fold_insert ha]
    generalize S.fold IKind.minsi.op b f = r at hm hb hk
    have e : IKind.minsi.op (f a) r = if (f a).toInt < r.toInt then f a else r := by
      show (if (f a).slt r then f a else r) = _
      simp [BitVec.slt]
    rw [e]
    by_cases h : (f a).toInt < r.toInt
    · rw [if_pos h]
      refine ⟨Or.inr ⟨a, Finset.mem_insert_self _ _, rfl⟩, by omega, fun k hk' => ?_⟩
      rcases Finset.mem_insert.1 hk' with rfl | hk'
      · exact le_refl _
      · have := hk k hk'; omega
    · rw [if_neg h]
      refine ⟨?_, hb, fun k hk' => ?_⟩
      · rcases hm with hm | ⟨k, hk', hm⟩
        · exact Or.inl hm
        · exact Or.inr ⟨k, Finset.mem_insert_of_mem hk', hm⟩
      · rcases Finset.mem_insert.1 hk' with rfl | hk'
        · omega
        · exact hk k hk'

/-- A row's largest score is one of its scores. -/
theorem max_spec (S : Finset (Fin 64)) (s : Fin 64 → EReal) :
    (S.fold max ⊥ s = ⊥ ∨ ∃ k ∈ S, S.fold max ⊥ s = s k) ∧ ∀ k ∈ S, s k ≤ S.fold max ⊥ s := by
  induction S using Finset.induction_on with
  | empty => exact ⟨Or.inl rfl, fun k hk => absurd hk (Finset.notMem_empty k)⟩
  | insert a S ha ih =>
    obtain ⟨hm, hk⟩ := ih
    rw [Finset.fold_insert ha]
    refine ⟨?_, fun k hk' => ?_⟩
    · rcases le_total (s a) (S.fold max ⊥ s) with h | h
      · rw [max_eq_right h]
        rcases hm with hm | ⟨k, hk', hm⟩
        · exact Or.inl hm
        · exact Or.inr ⟨k, Finset.mem_insert_of_mem hk', hm⟩
      · rw [max_eq_left h]; exact Or.inr ⟨a, Finset.mem_insert_self _ _, rfl⟩
    · rcases Finset.mem_insert.1 hk' with rfl | hk'
      · exact le_max_left _ _
      · exact le_trans (hk k hk') (le_max_right _ _)

/-- The kernel's least position: positions of a largest score as themselves, every other as 64. -/
theorem min_first (s : Fin 64 → EReal) :
    ∃ k, First s k ∧ (Finset.univ : Finset (Fin 64)).fold IKind.minsi.op 2147483647#32
        (fun k => Scalar.select (Ideal.cmp .oeq (s k) ((Finset.univ : Finset (Fin 64)).fold max ⊥ s)) (BitVec.ofNat 32 k.val) 64#32)
      = BitVec.ofNat 32 k.val := by
  obtain ⟨hM, hle⟩ := max_spec Finset.univ s
  generalize (Finset.univ : Finset (Fin 64)).fold max ⊥ s = M at hM hle
  have hex : ∃ k0, s k0 = M := by
    rcases hM with hM | ⟨k, _, hM⟩
    · exact ⟨0, le_antisymm (hle 0 (Finset.mem_univ _)) (hM ▸ bot_le)⟩
    · exact ⟨k, hM.symm⟩
  have hf : ∀ k : Fin 64, Scalar.select (Ideal.cmp .oeq (s k) M) (BitVec.ofNat 32 k.val) 64#32
      = if s k = M then BitVec.ofNat 32 k.val else 64#32 := by
    intro k
    simp only [Scalar.select, Ideal.cmp]
    by_cases h : s k = M <;> simp [h]
  simp only [hf]
  obtain ⟨hm, hb, hk⟩ := fold_min_spec Finset.univ 2147483647#32 (fun k => if s k = M then BitVec.ofNat 32 k.val else 64#32)
  generalize (Finset.univ : Finset (Fin 64)).fold IKind.minsi.op 2147483647#32
    (fun k => if s k = M then BitVec.ofNat 32 k.val else 64#32) = r at hm hb hk
  obtain ⟨k0, h0⟩ := hex
  have hr : r.toInt < 64 := by
    have h := hk k0 (Finset.mem_univ _)
    simp only [if_pos h0, toInt_pos] at h
    have := k0.isLt; omega
  have h64 : (64#32 : BitVec 32).toInt = 64 := by decide
  have hbig : (2147483647#32 : BitVec 32).toInt = 2147483647 := by decide
  rcases hm with hm | ⟨k, _, hm⟩
  · rw [hm, hbig] at hr; omega
  · by_cases h : s k = M
    · simp only [if_pos h] at hm
      refine ⟨k, ⟨fun j => h ▸ hle j (Finset.mem_univ _), fun j hj => ?_⟩, hm⟩
      have hj' := hk j (Finset.mem_univ _)
      simp only [if_pos (hj.trans h), hm, toInt_pos] at hj'
      exact Fin.le_def.2 (by exact_mod_cast hj')
    · simp only [if_neg h] at hm
      rw [hm, h64] at hr; omega

/-! ## The row's values, as both programs reach them -/

/-- The largest score of a row. -/
def peak (s : Fin 64 → EReal) : EReal := (Finset.univ : Finset (Fin 64)).fold max ⊥ s

/-- A row's exponentials over their sum, the exponents shifted by the largest score. -/
def soft (s : Fin 64 → EReal) (e : Fin 64) : EReal :=
  Ideal.div (Ideal.exp (s e - peak s)) (∑ j : Fin 64, Ideal.exp (s j - peak s))

end Cert.Proof.Row

end
-- ==== Proof.KernelRow.lean ====
/-
  What the kernel computes from a block of tokens and the signs, read at a token: of its row of scores, the least
  position of a largest score, and the shifted exponentials over their sum.
-/
module

public import proofs.«01_k».proof.Proof.Gen.KernelIdeal.Skeleton
public import proofs.«01_k».proof.Proof.RowMath
public import Idealize.ShloMosaic.Lib.ValueIdxCore
public import Idealize.ShloMosaic.Lib.ValueLayout
public import Idealize.ShloMosaic.Lib.ValueLayoutCasts
public import Idealize.ShloMosaic.Lib.Pipeline.Value

@[expose] public section

noncomputable section

namespace Cert.Proof.KI

open Idealize.ShloMosaic Idealize.ShloMosaic.ValueIdx
open Cert.KernelIdeal Cert.KernelIdeal.Gen
open Cert.Proof.Row
open scoped BigOperators

/-- A token's row of scores against the signs. -/
def krow (x : Vec Ideal S1x512x4096 .f32) (g : Vec Ideal S4096x64 .bf16) (r : Fin 512) : Fin 64 → EReal :=
  fun e => ∑ k : Fin 4096, (x (ix3 0 r k) : EReal) * (g (ix2 k e) : EReal)

theorem pay1_apply (x : Vec Ideal S1x512x4096 .f32) (g : Vec Ideal S4096x64 .bf16) (r : Fin 512) (e : Fin 64) :
    k0_pay1 x g (ix2 r e) = krow x g r e := by
  unfold k0_pay1 krow
  refine (Ideal.matmul_constant_zero_apply (φ₁ := .bf16) (φ₂ := .bf16) dot_S512x4096_S4096x64_S512x64_1_0_0_1_n_n none
    (truncf (F := Ideal) .bf16 (shapeCast S512x4096 x shapeCasts_S1x512x4096_S512x4096) bitsLt_bf16_f32) g (ix2 r e)).trans ?_
  rw [← Equiv.sum_comp (contrEquiv1 dot_S512x4096_S4096x64_S512x64_1_0_0_1_n_n 4096 rfl rfl).symm]
  refine Finset.sum_congr rfl fun k _ => ?_
  congr 1
  · refine Eq.trans ?_ (shapeCast_1ab_ab_apply x shapeCasts_S1x512x4096_S512x4096 r k)
    refine congrArg (shapeCast S512x4096 x shapeCasts_S1x512x4096_S512x4096) ?_
    funext a
    match a with
    | ⟨0, _⟩ => rfl
    | ⟨1, _⟩ => rfl
  · refine congrArg g ?_
    funext a
    match a with
    | ⟨0, _⟩ => rfl
    | ⟨1, _⟩ => rfl

/-- The reductions along the experts read the row. -/
theorem kred_lift (r : Fin 512) (e : Fin 64) : reduces_S512x64_S512.lift (ix1 r) e = ix2 r e := by
  funext a
  match a with
  | ⟨0, _⟩ => rfl
  | ⟨1, _⟩ => rfl

theorem kbits_bot : (Ideal.ofBits .f32 0xFF800000#32 : EReal) = ⊥ := by simp [Ideal.ofBits, Ideal.ieee]

theorem rowMax_apply (s : FVec Ideal S512x64 .f32) (r : Fin 512) :
    multiReduction .maximumf [1] S512 s 0xFF800000#32 reduces_S512x64_S512 (.inl rfl) rfl (ix1 r)
      = peak (fun e => (s (ix2 r e) : EReal)) := by
  refine (Ideal.multiReduction_maximumf_single s _ reduces_S512x64_S512 _ _ (ix1 r)).trans ?_
  unfold peak
  refine (congrArg (fun z : EReal => Finset.fold max z _ Finset.univ) kbits_bot).trans ?_
  refine congrArg (fun f => Finset.fold max ⊥ f Finset.univ) (funext fun e => ?_)
  exact congrArg s (kred_lift r e)

theorem rowSum_apply (s : FVec Ideal S512x64 .f32) (r : Fin 512) :
    multiReduction .add [1] S512 s 0x00000000#32 reduces_S512x64_S512 (.inl rfl) rfl (ix1 r)
      = ∑ e : Fin 64, (s (ix2 r e) : EReal) := by
  refine (Ideal.multiReduction_add_single s _ reduces_S512x64_S512 _ _ (ix1 r)).trans ?_
  exact Finset.sum_congr rfl fun e _ => congrArg s (kred_lift r e)

/-- A per-token column spread over the experts reads its token's entry. -/
theorem kspread_apply (x : FVec Ideal S512 .f32) (r : Fin 512) (e : Fin 64) :
    broadcastTo S512x64 (shapeCast S512x1 x shapeCasts_S512_S512x1) broadcasts_S512x1_S512x64 (ix2 r e) = x (ix1 r) := by
  rw [broadcastTo_apply _ _ _ (ix2 r 0)]
  · exact shapeCast_a_a1_apply x shapeCasts_S512_S512x1 r 0
  · intro a
    match a with
    | ⟨0, _⟩ => rfl
    | ⟨1, _⟩ => rfl

theorem krow_eq (x : Vec Ideal S1x512x4096 .f32) (g : Vec Ideal S4096x64 .bf16) (r : Fin 512) :
    (fun e => (k0_pay1 x g (ix2 r e) : EReal)) = krow x g r := funext fun e => pay1_apply x g r e

theorem pay2_spread (x : Vec Ideal S1x512x4096 .f32) (g : Vec Ideal S4096x64 .bf16) (r : Fin 512) (e : Fin 64) :
    broadcastTo S512x64 (k0_pay2 x g) broadcasts_S512x1_S512x64 (ix2 r e) = peak (krow x g r) := by
  unfold k0_pay2
  refine (kspread_apply _ r e).trans ?_
  rw [rowMax_apply, krow_eq]

/-- The reduction to a least word, along one axis. -/
theorem rowMin_apply (s : IVec S512x64 32) (r : Fin 512) :
    multiReductionI .minsi [1] S512 s 2147483647#32 reduces_S512x64_S512 rfl (ix1 r)
      = (Finset.univ : Finset (Fin 64)).fold IKind.minsi.op 2147483647#32 (fun e => s (ix2 r e)) := by
  refine (multiReductionI_eq_fold .minsi s 2147483647#32 reduces_S512x64_S512 rfl (ix1 r)).trans ?_
  refine (Shape.Reduces.fold_filter_drop_single reduces_S512x64_S512 IKind.minsi.op 2147483647#32 s (ix1 r)).trans ?_
  refine congrArg (fun f => Finset.fold IKind.minsi.op 2147483647#32 f Finset.univ) (funext fun e => ?_)
  exact congrArg s (kred_lift r e)

theorem pay3_apply (x : Vec Ideal S1x512x4096 .f32) (g : Vec Ideal S4096x64 .bf16) (r : Fin 512) (u : Fin 1) :
    ∃ k, First (krow x g r) k ∧
      shapeCast S512x1 (k0_pay3 x g) shapeCasts_S1x512x1_S512x1 (ix2 r u) = BitVec.ofNat 32 k.val := by
  obtain ⟨k, hk, he⟩ := min_first (krow x g r)
  refine ⟨k, hk, ?_⟩
  unfold k0_pay3
  rw [shapeCast_shapeCast]
  refine (shapeCast_a_a1_apply _ shapeCasts_S512_S512x1 r u).trans ?_
  refine (rowMin_apply _ r).trans (Eq.trans ?_ he)
  refine congrArg (fun f => Finset.fold IKind.minsi.op 2147483647#32 f Finset.univ) (funext fun e => ?_)
  show Scalar.select (Ideal.cmp .oeq (k0_pay1 x g (ix2 r e)) (broadcastTo S512x64 (k0_pay2 x g) broadcasts_S512x1_S512x64 (ix2 r e)))
    (iota .tc S512x64 32 [1] iota_S512x64_d1_w32 (ix2 r e)) 64#32 = _
  rw [pay1_apply, pay2_spread, iota_single_apply]
  rfl

/-- A block's shifted exponentials. -/
def kexp (x : Vec Ideal S1x512x4096 .f32) (g : Vec Ideal S4096x64 .bf16) : FVec Ideal S512x64 .f32 :=
  exp (subf (k0_pay1 x g) (broadcastTo S512x64 (k0_pay2 x g) broadcasts_S512x1_S512x64))

theorem kexp_apply (x : Vec Ideal S1x512x4096 .f32) (g : Vec Ideal S4096x64 .bf16) (r : Fin 512) (e : Fin 64) :
    kexp x g (ix2 r e) = Ideal.exp (krow x g r e - peak (krow x g r)) := by
  have h : kexp x g (ix2 r e) = Ideal.exp ((k0_pay1 x g (ix2 r e) : EReal)
    - (broadcastTo S512x64 (k0_pay2 x g) broadcasts_S512x1_S512x64 (ix2 r e) : EReal)) := rfl
  rw [h, pay1_apply, pay2_spread]

theorem pay4_apply (x : Vec Ideal S1x512x4096 .f32) (g : Vec Ideal S4096x64 .bf16) (r : Fin 512) (e : Fin 64) :
    shapeCast S512x64 (k0_pay4 x g) shapeCasts_S1x512x64_S512x64 (ix2 r e) = soft (krow x g r) e := by
  have h : shapeCast S512x64 (k0_pay4 x g) shapeCasts_S1x512x64_S512x64
      = divf (kexp x g) (broadcastTo S512x64 (shapeCast S512x1
        (multiReduction .add [1] S512 (kexp x g) 0x00000000#32 reduces_S512x64_S512 (.inl rfl) rfl) shapeCasts_S512_S512x1)
          broadcasts_S512x1_S512x64) := by
    unfold k0_pay4 kexp
    rw [shapeCast_shapeCast]
  rw [h]
  unfold soft
  refine Eq.trans (b := Ideal.div (kexp x g (ix2 r e)) (∑ j : Fin 64, (kexp x g (ix2 r j) : EReal))) ?_ ?_
  · exact congrArg (Ideal.div (kexp x g (ix2 r e))) ((kspread_apply _ r e).trans (rowSum_apply _ r))
  · simp only [kexp_apply]

/-- The signs the kernel keeps are the signs of what it loads. -/
theorem pay5_apply (w : Vec Ideal S4096x64 .f32) (q : S4096x64.Idx) : (k0_pay5 w q : EReal) = Ideal.sign (w q) := by
  unfold k0_pay5
  rw [shapeCast_self, shapeCast_self]
  exact Ideal.jnp_sign_eq_sign_f32 (w q)

end Cert.Proof.KI
-- ==== Proof.RefValue.lean ====
/-
  The reference's two results read at an index: of a token's row of scores, the first position of a largest score, and
  the shifted exponentials over their sum.
-/
module

public import proofs.«01_k».proof.Proof.RefRun
public import proofs.«01_k».proof.Proof.RowMath
public import Idealize.ShloMosaic.Lib.ValueIdxCore
public import Idealize.ShloMosaic.Lib.IdealHost
public import Idealize.ShloMosaic.Lib.Pipeline.Value

@[expose] public section

noncomputable section

namespace Cert.Proof.RI

open Idealize.ShloMosaic Idealize.ShloMosaic.ValueIdx
open Cert.ReferenceIdeal Cert.ReferenceIdeal.Facts₀
open Cert.Proof.Row
open scoped BigOperators

/-- A token's row of scores: its inner product with each expert's signs. -/
def row (a0 : Vec Ideal S4x4096x4096 .f32) (a1 : Vec Ideal S64x4096 .f32) (i : Fin 4) (j : Fin 4096) : Fin 64 → EReal :=
  fun e => ∑ k : Fin 4096, (a0 (ix3 i j k) : EReal) * Ideal.sign (a1 (ix2 e k))

theorem score_apply (a0 : Vec Ideal S4x4096x4096 .f32) (a1 : Vec Ideal S64x4096 .f32) (i : Fin 4) (j : Fin 4096) (e : Fin 64) :
    score a0 a1 (ix3 i j e) = row a0 a1 i j e := by
  unfold score row
  simp only [Host.dotGeneral]
  rw [Ideal.dotGeneral_apply]
  rw [← Equiv.sum_comp (contrEquiv1 dot_S4x4096x4096_S64x4096_S4x4096x64_2_1_01_0_n_n 4096 rfl rfl).symm]
  refine Finset.sum_congr rfl fun k _ => ?_
  congr 1
  · refine congrArg a0 ?_
    funext a
    match a with
    | ⟨0, _⟩ => rfl
    | ⟨1, _⟩ => rfl
    | ⟨2, _⟩ => rfl
  · show Ideal.sign _ = Ideal.sign _
    refine congrArg (fun z => Ideal.sign (a1 z)) ?_
    funext a
    match a with
    | ⟨0, _⟩ => rfl
    | ⟨1, _⟩ => rfl

/-- The reduction along the experts, as the library's one-axis fact. -/
theorem red : Shape.Reduces S4x4096x64 [2] S4x4096 := by decide

theorem red_lift (i : Fin 4) (j : Fin 4096) (e : Fin 64) : red.lift (ix2 i j) e = ix3 i j e := by
  funext a
  match a with
  | ⟨0, _⟩ => rfl
  | ⟨1, _⟩ => rfl
  | ⟨2, _⟩ => rfl

theorem ofBits_bot : (Ideal.ofBits .f32 0xFF800000#32 : EReal) = ⊥ := by simp [Ideal.ofBits, Ideal.ieee]

/-- The pairs the two-operand reduction folds over are the row's scores with their positions. -/
theorem fiber_mem (s : Vec Ideal S4x4096x64 .f32) (i : Fin 4) (j : Fin 4096) (p : EReal × BitVec 32) :
    p ∈ Host.argReduceFiber (s : S4x4096x64.Idx → EReal) (iotaInDim S4x4096x64 32 2) reducesTo_S4x4096x64_S4x4096_d2 (ix2 i j)
      ↔ ∃ k : Fin 64, p = (s (ix3 i j k), BitVec.ofNat 32 k.val) := by
  unfold Host.argReduceFiber
  rw [Shape.ReducesTo.drop_eq_drop _ red]
  simp only [List.mem_map, List.mem_filter, List.mem_finRange, true_and, decide_eq_true_eq]
  constructor
  · rintro ⟨n, hn, rfl⟩
    generalize S4x4096x64.rowMajor.symm n = q at hn ⊢
    refine ⟨q 2, ?_⟩
    rw [← red_lift i j (q 2), ← hn, red.lift_drop]
    rfl
  · rintro ⟨k, rfl⟩
    refine ⟨S4x4096x64.rowMajor (ix3 i j k), ?_, ?_⟩
    · rw [Equiv.symm_apply_apply, ← red_lift i j k]; exact red.drop_lift (ix2 i j) k
    · rw [Equiv.symm_apply_apply]; rfl

theorem idx_apply (s : Vec Ideal S4x4096x64 .f32) (i : Fin 4) (j : Fin 4096) :
    ∃ k, First (fun e => (s (ix3 i j e) : EReal)) k ∧ idx s (ix2 i j) = BitVec.ofNat 32 k.val := by
  obtain ⟨k, hk, he⟩ := arg_first (fun e => (s (ix3 i j e) : EReal)) _ (fiber_mem s i j)
  refine ⟨k, hk, ?_⟩
  unfold idx
  rw [Ideal.argReduce_eq_reduce2, Host.reduce2_eq_foldl_fiber]
  have h0 : ((constant (F := Ideal) S_ .f32 0xFF800000#32 (Shape.Idx.first h_S_), constantI S_ 32 0#32 (Shape.Idx.first h_S_)) : Ideal .f32 × BitVec 32)
    = ((⊥ : EReal), 0#32) := Prod.ext ofBits_bot rfl
  rw [h0]
  exact he

theorem max_apply (s : Vec Ideal S4x4096x64 .f32) (i : Fin 4) (j : Fin 4096) :
    Host.reduce (FloatOps.maximumf (F := Ideal) (φ := .f32)) s (constant S_ .f32 0xFF800000#32) reducesTo_S4x4096x64_S4x4096_d2 h_S_ (ix2 i j)
      = peak (fun e => (s (ix3 i j e) : EReal)) := by
  have h := Host.reduce_eq_fold_single (max : EReal → EReal → EReal) (s : S4x4096x64.Idx → EReal)
    (constant (F := Ideal) S_ .f32 0xFF800000#32) reducesTo_S4x4096x64_S4x4096_d2 red h_S_ (ix2 i j)
  refine Eq.trans h ?_
  unfold peak
  rw [show ((constant (F := Ideal) S_ .f32 0xFF800000#32) (Shape.Idx.first h_S_) : EReal) = ⊥ from ofBits_bot]
  refine congrArg (fun f => Finset.fold max ⊥ f Finset.univ) (funext fun e => ?_)
  exact congrArg s (red_lift i j e)

/-- A per-token array spread over the experts reads its token's entry. -/
theorem spread_apply (x : Vec Ideal S4x4096 .f32) (i : Fin 4) (j : Fin 4096) (e : Fin 64) :
    broadcastInDim S4x4096x64 ![0, 1, 2] bcast_S4x4096x1_S4x4096x64_0_1_2
      (broadcastInDim S4x4096x1 ![0, 1] bcast_S4x4096_S4x4096x1_0_1 x) (ix3 i j e) = x (ix2 i j) := by
  rw [broadcastInDim_apply _ _ _ _ (ix3 i j 0), broadcastInDim_apply _ _ _ _ (ix2 i j)]
  · intro a
    match a with
    | ⟨0, _⟩ => rfl
    | ⟨1, _⟩ => rfl
  · intro a
    match a with
    | ⟨0, _⟩ => rfl
    | ⟨1, _⟩ => rfl
    | ⟨2, _⟩ => rfl

theorem exp_sub_apply (s y : FVec Ideal S4x4096x64 .f32) (q : S4x4096x64.Idx) :
    Host.exp (F := Ideal) (subf s y) q = Ideal.exp ((s q : EReal) - (y q : EReal)) := rfl

theorem max_at (x y : FVec Ideal S4x4096 .f32) (q : S4x4096.Idx) : maximumf (F := Ideal) x y q = max (x q : EReal) (y q : EReal) := rfl

theorem div_at (x y : FVec Ideal S4x4096x64 .f32) (q : S4x4096x64.Idx) : Host.divf (F := Ideal) x y q = Ideal.div (x q) (y q) := rfl

theorem expo_apply (s : Vec Ideal S4x4096x64 .f32) (i : Fin 4) (j : Fin 4096) (e : Fin 64) :
    expo s (ix3 i j e) = Ideal.exp ((s (ix3 i j e) : EReal) - peak (fun e => (s (ix3 i j e) : EReal))) := by
  unfold expo
  refine (exp_sub_apply s _ _).trans ?_
  rw [spread_apply]
  refine congrArg (fun z : EReal => Ideal.exp ((s (ix3 i j e) : EReal) - z)) ?_
  refine (max_at _ _ _).trans ?_
  rw [max_apply, broadcastInDim_scalar_apply]
  refine Eq.trans (congrArg (fun z : EReal => max z _) ofBits_bot) (max_eq_right bot_le)

theorem norm_apply (s : Vec Ideal S4x4096x64 .f32) (i : Fin 4) (j : Fin 4096) (e : Fin 64) :
    norm (expo s) (ix3 i j e) = soft (fun e => (s (ix3 i j e) : EReal)) e := by
  unfold norm soft
  refine (div_at _ _ _).trans ?_
  rw [spread_apply, hostReduceAdd_apply, Ideal.hostReduceAdd_single _ red]
  rw [show ((constant (F := Ideal) S_ .f32 0x00000000#32) (Shape.Idx.first h_S_) : EReal) = 0 from Ideal.ofBits_zero_f32, zero_add]
  rw [expo_apply]
  refine congrArg _ (Finset.sum_congr rfl fun k _ => ?_)
  exact (congrArg (expo s) (red_lift i j k)).trans (expo_apply s i j k)

end Cert.Proof.RI
-- ==== Proof.KernelValue.lean ====
/-
  The kernel's two results read at a token: its block of tokens and its signs are the arguments' entries, so its row of
  scores is the reference's.
-/
module

public import proofs.«01_k».proof.Proof.IdealFrame
public import proofs.«01_k».proof.Proof.KernelRow
public import proofs.«01_k».proof.Proof.RefValue
public import Idealize.ShloMosaic.Lib.VecWindow

@[expose] public section

noncomputable section

namespace Cert.Proof.KI

open Cert.KernelIdeal Cert.KernelIdeal.Gen
open Idealize.ShloMosaic Idealize.ShloMosaic.TcCoe Idealize.ShloMosaic.ValueIdx
open Cert.Proof.Row
open scoped BigOperators

section Any
variable {F : FTy → Type} [FloatOps F]
variable (m : (ℓ : Loc nD τ sig) → Buf (Elt F) ℓ)

/-- The first argument as launched. -/
abbrev arg0 (c : Dev nD) : Vec F S4x4096x4096 .f32 := m ((c : Thread nD τ).loc main_arg0)
/-- The second argument as launched. -/
abbrev arg1 (c : Dev nD) : Vec F S64x4096 .f32 := m ((c : Thread nD τ).loc main_arg1)

theorem V_v0 (c : Dev nD) : V m c main_v0 = shapeCast S16384x4096 (arg0 m c) shapeCasts_S4x4096x4096_S16384x4096 := by
  simp only [V, V0, hostOps0, List.flatten_cons, List.flatten_nil, List.append_nil, StableHlo.after_cons, StableHlo.after_nil]
  rw [StableHlo.unary_result_ne _ _ _ _ _ _ (by decide), StableHlo.reshape_result]
  rfl

theorem V_v1 (c : Dev nD) : V m c main_v1 = transpose S4096x64 [1, 0] (arg1 m c) transposes_S64x4096_S4096x64_1_0 := by
  simp only [V, V0, hostOps0, List.flatten_cons, List.flatten_nil, List.append_nil, StableHlo.after_cons, StableHlo.after_nil]
  rw [StableHlo.unary_result, StableHlo.reshape_result_ne _ _ _ _ _ _ _ (by decide)]

/-- Row `512 b + r` is token `(i, j)`, the tokens counted row by row. -/
theorem row_lt (i : Fin 4) (j : Fin 4096) : 4096 * i.val + j.val < 16384 := by omega
def tok (i : Fin 4) (j : Fin 4096) : Fin 16384 := ⟨4096 * i.val + j.val, row_lt i j⟩

theorem xblk_read (c : Dev nD) (X : Buf (Elt F) (xM.view.loc (c : Thread nD τ))) (b : Fin 32) (r : Fin 512) (k : Fin 4096) (t : Fin 16384)
    (ht : t.val = 512 * b.val + r.val) :
    (xblk b).view.read (Elt F) X (ix2 r k) = (X : S16384x4096.Idx → Elt F .f32) (ix2 t k) := by
  show (X : S16384x4096.Idx → Elt F .f32) _ = _
  refine congrArg (X : S16384x4096.Idx → Elt F .f32) ?_
  funext a
  match a with
  | ⟨0, _⟩ => exact Fin.ext (by show 512 * b.val + 1 * r.val = t.val; omega)
  | ⟨1, _⟩ => exact Fin.ext (by show 0 + 1 * k.val = k.val; omega)

theorem tokens_apply (c : Dev nD) (i : Fin 4) (j k : Fin 4096) :
    shapeCast S16384x4096 (arg0 m c) shapeCasts_S4x4096x4096_S16384x4096 (ix2 (tok i j) k) = arg0 m c (ix3 i j k) :=
  shapeCast_apply _ _ _ _ (by
    rw [Shape.rowMajor_val_two, Shape.rowMajor_val_three]
    show (i.val * 4096 + j.val) * 4096 + k.val = (4096 * i.val + j.val) * 4096 + k.val
    omega)

/-- A block's row read at a coordinate is the token's entry. -/
theorem xval_apply (c : Dev nD) (i : Fin 4) (j k : Fin 4096) :
    xval c (XA m c) (rowBlk (tok i j)) (ix3 0 (rowIn (tok i j)) k) = arg0 m c (ix3 i j k) := by
  unfold xval
  refine (shapeCast_ab_1ab_apply _ casts_x 0 (rowIn (tok i j)) k).trans ?_
  refine (xblk_read c _ _ _ k (tok i j) ?_).trans ?_
  · show (tok i j).val = 512 * ((tok i j).val / 512) + (tok i j).val % 512
    omega
  · refine (congrFun (V_v0 m c) _).trans ?_
    exact tokens_apply m c i j k

theorem whole_read (c : Dev nD) (q : S4096x64.Idx) :
    (iblk m c 0 t0_0 : S4096x64.Idx → Elt F .f32) q = (V m c main_v1 : S4096x64.Idx → Elt F .f32) q := by
  show (V m c main_v1 : S4096x64.Idx → Elt F .f32) _ = _
  refine congrArg (V m c main_v1 : S4096x64.Idx → Elt F .f32) ?_
  funext a
  match a with
  | ⟨0, _⟩ => exact Fin.ext (by show 0 * 4096 + 1 * (q 0).val = (q 0).val; omega)
  | ⟨1, _⟩ => exact Fin.ext (by show 0 * 64 + 1 * (q 1).val = (q 1).val; omega)

end Any

variable (m : (ℓ : Loc nD τ sig) → Buf (Elt Ideal) ℓ)

/-- The kernel's signs are the signs of the second argument, transposed. -/
theorem sgn_apply (c : Dev nD) (k : Fin 4096) (e : Fin 64) : (sgn m c (ix2 k e) : EReal) = Ideal.sign (arg1 m c (ix2 e k)) := by
  unfold sgn signs
  rw [pay5_apply]
  refine congrArg Ideal.sign ?_
  refine (congrFun (View.readAt_rep_full (st0 t0_0).view (iblk m c 0 t0_0 : S4096x64.Idx → Elt Ideal .f32) inb_S4096x64_S4096x64_0_0) (ix2 k e)).trans ?_
  refine (whole_read m c _).trans ((congrFun (V_v1 m c) _).trans ?_)
  exact transpose_ix2_apply (arg1 m c) transposes_S64x4096_S4096x64_1_0 k e

/-- The kernel's row of scores at a token is the reference's. -/
theorem krow_eq_row (c : Dev nD) (i : Fin 4) (j : Fin 4096) :
    krow (xval c (XA m c) (rowBlk (tok i j))) (sgn m c) (rowIn (tok i j)) = RI.row (arg0 m c) (arg1 m c) i j := by
  funext e
  unfold krow RI.row
  refine Finset.sum_congr rfl fun k _ => ?_
  rw [sgn_apply, xval_apply]

/-- The first result is the reference's. -/
theorem idx_eq (c : Dev nD) : shapeCast S4x4096 (wholeI (idxOf m c)) shapeCasts_S16384x1_S4x4096 = RI.idx (RI.score (arg0 m c) (arg1 m c)) := by
  funext q
  obtain ⟨i, j, rfl⟩ : ∃ i j, q = ix2 i j := ⟨q 0, q 1, eq_ix2 q⟩
  obtain ⟨k, hk, he⟩ := RI.idx_apply (RI.score (arg0 m c) (arg1 m c)) i j
  obtain ⟨k', hk', he'⟩ := pay3_apply (xval c (XA m c) (rowBlk (tok i j))) (sgn m c) (rowIn (tok i j)) 0
  rw [krow_eq_row] at hk'
  rw [show (fun e => (RI.score (arg0 m c) (arg1 m c) (ix3 i j e) : EReal)) = RI.row (arg0 m c) (arg1 m c) i j from
    funext fun e => RI.score_apply _ _ i j e] at hk
  rw [First.unique hk' hk] at he'
  rw [he]
  refine Eq.trans ?_ he'
  refine (shapeCast_apply _ _ _ (ix2 (tok i j) 0) ?_).trans ?_
  · rw [Shape.rowMajor_val_two, Shape.rowMajor_val_two]
    show (4096 * i.val + j.val) * 1 + 0 = i.val * 4096 + j.val
    omega
  · have h : idxI (ix2 (tok i j) 0) = ix2 (rowIn (tok i j)) 0 := by
      funext a
      match a with
      | ⟨0, _⟩ => rfl
      | ⟨1, _⟩ => rfl
    unfold wholeI
    rw [h]
    rfl

/-- The second result is the reference's. -/
theorem prob_eq (c : Dev nD) : shapeCast S4x4096x64 (wholeP (probOf m c)) shapeCasts_S16384x64_S4x4096x64
    = RI.norm (RI.expo (RI.score (arg0 m c) (arg1 m c))) := by
  funext q
  obtain ⟨i, j, e, rfl⟩ : ∃ i j e, q = ix3 i j e := ⟨q 0, q 1, q 2, eq_ix3 q⟩
  refine Eq.trans ?_ (RI.norm_apply (RI.score (arg0 m c) (arg1 m c)) i j e).symm
  rw [show (fun e => (RI.score (arg0 m c) (arg1 m c) (ix3 i j e) : EReal)) = RI.row (arg0 m c) (arg1 m c) i j from
    funext fun e => RI.score_apply _ _ i j e]
  rw [← krow_eq_row]
  refine Eq.trans ?_ (pay4_apply (xval c (XA m c) (rowBlk (tok i j))) (sgn m c) (rowIn (tok i j)) e)
  refine (shapeCast_apply _ _ _ (ix2 (tok i j) e) ?_).trans ?_
  · rw [Shape.rowMajor_val_two, Shape.rowMajor_val_three]
    show (4096 * i.val + j.val) * 64 + e.val = (i.val * 4096 + j.val) * 64 + e.val
    omega
  · have h : idxP (ix2 (tok i j) e) = ix2 (rowIn (tok i j)) e := by
      funext a
      match a with
      | ⟨0, _⟩ => rfl
      | ⟨1, _⟩ => rfl
    unfold wholeP
    rw [h]
    rfl

end Cert.Proof.KI

end
-- ==== Proof.lean ====
/-
  The claims, assembled.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.WordFrame
public import proofs.«01_k».proof.Proof.IdealFrame
public import proofs.«01_k».proof.Proof.RefRun
public import proofs.«01_k».proof.Proof.KernelValue

@[expose] public section

noncomputable section

namespace Cert.Proof

open Idealize.ShloMosaic Idealize.SL.Sem

theorem frame_word : Cert.quiescent_Kernel (hKernel := Cert.Kernel.Gen.facts) := fun m g _ => KB.run_frame m g

theorem frame_ideal : Cert.quiescent_KernelIdeal (hKernelIdeal := Cert.KernelIdeal.Gen.facts) := fun m g _ => KI.run_frame m g

theorem frame_reference : Cert.quiescent_ReferenceIdeal (hReferenceIdeal := Cert.ReferenceIdeal.Gen.facts) := fun m g _ =>
  (θ_run Cert.ReferenceIdeal.defs _ _).mono (fun r h => ⟨fun c => (h.1 c).2.2, h.2⟩) (RI.run_values m g)

/-- Both results of the kernel are the reference's, whatever the arguments hold. -/
theorem equal : Cert.algebraic_KernelIdeal_ReferenceIdeal (hKernelIdeal := Cert.KernelIdeal.Gen.facts)
    (hReferenceIdeal := Cert.ReferenceIdeal.Gen.facts) := by
  intro m g m' g' _ hag
  refine ⟨fun c => RI.idx (RI.score (KI.arg0 m c) (KI.arg1 m c)), fun c => RI.norm (RI.expo (RI.score (KI.arg0 m c) (KI.arg1 m c))), ?_, ?_⟩
  · refine (θ_run Cert.KernelIdeal.defs _ _).mono (fun r h => ?_) (KI.run_values m g)
    exact fun c => ⟨(h.1 c).1.trans (KI.idx_eq m c), (h.1 c).2.1.trans (KI.prob_eq m c), (h.1 c).2.2⟩
  · refine (θ_run Cert.ReferenceIdeal.defs _ _).mono (fun r h => ?_) (RI.run_values m' g')
    intro c
    obtain ⟨e0, e1⟩ := hag c
    obtain ⟨h0, h1, h2⟩ := h.1 c
    refine ⟨h0.trans ?_, h1.trans ?_, h2⟩
    · rw [e0, e1]
    · rw [e0, e1]

theorem claim : Cert.Claim :=
  ⟨Cert.Kernel.Gen.facts, Cert.KernelIdeal.Gen.facts, Cert.ReferenceIdeal.Gen.facts, frame_word, frame_ideal, frame_reference,
    IdealRules.sign_bit.statement Cert.KernelIdeal.S4096x64 .f32, equal⟩

end Cert.Proof

end
